-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log_floor" .f32 0xC28A27B5#32 ((Real.log (332307 / 332306998946228968225951765070086144) : ℝ) : EReal)

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S16384x480 : Shape := ⟨2, ![16384, 480]⟩
abbrev S16384x1000 : Shape := ⟨2, ![16384, 1000]⟩
abbrev S16384 : Shape := ⟨1, ![16384]⟩
abbrev S480x128 : Shape := ⟨2, ![480, 128]⟩
abbrev S128 : Shape := ⟨1, ![128]⟩
abbrev S128x1000 : Shape := ⟨2, ![128, 1000]⟩
abbrev S1000 : Shape := ⟨1, ![1000]⟩
abbrev S128x1 : Shape := ⟨2, ![128, 1]⟩
abbrev S1 : Shape := ⟨1, ![1]⟩
abbrev S_ : Shape := ⟨0, ![]⟩

class Facts : Prop where
  bcast_S_S16384x1000 : S_.BroadcastsInDim S16384x1000 (![] : Fin 0 → Fin S16384x1000.rank)
  bcast_S_S128 : S_.BroadcastsInDim S128 (![] : Fin 0 → Fin S128.rank)
  bcast_S_S1000 : S_.BroadcastsInDim S1000 (![] : Fin 0 → Fin S1000.rank)
  bcast_S_S1 : S_.BroadcastsInDim S1 (![] : Fin 0 → Fin S1.rank)

variable [Facts]

def fn {F : FTy → Type} [FloatOps F] (main_arg0 : FVec F S16384x480 .f32) (main_arg1 : FVec F S16384x480 .f32) (main_arg2 : FVec F S16384x1000 .f32) (main_arg3 : IVec S16384 32) (main_arg4 : FVec F S480x128 .f32) (main_arg5 : FVec F S128 .f32) (main_arg6 : FVec F S128x1000 .f32) (main_arg7 : FVec F S1000 .f32) (main_arg8 : FVec F S480x128 .f32) (main_arg9 : FVec F S128 .f32) (main_arg10 : FVec F S128x1 .f32) (main_arg11 : FVec F S1 .f32) : IVec S16384x1000 1 × IVec S128 1 × IVec S1000 1 × IVec S128 1 × IVec S1 1 :=
  let main_cst : FVec F S_ .f32 := constant S_ .f32 0x00000000#32
  let main_v0 : FVec F S16384x1000 .f32 := broadcastInDim S16384x1000 ![] bcast_S_S16384x1000 main_cst
  let main_v1 : IVec S16384x1000 1 := cmpf .oeq main_arg2 main_v0
  let main_cst_0 : FVec F S_ .f32 := constant S_ .f32 0x3F800000#32
  let main_v2 : FVec F S16384x1000 .f32 := broadcastInDim S16384x1000 ![] bcast_S_S16384x1000 main_cst_0
  let main_v3 : IVec S16384x1000 1 := cmpf .oeq main_arg2 main_v2
  let main_v4 : IVec S16384x1000 1 := ori main_v1 main_v3
  let main_cst_1 : FVec F S_ .f32 := constant S_ .f32 0x00000000#32
  let main_v5 : FVec F S128 .f32 := broadcastInDim S128 ![] bcast_S_S128 main_cst_1
  let main_v6 : IVec S128 1 := cmpf .oeq main_arg5 main_v5
  let main_cst_2 : FVec F S_ .f32 := constant S_ .f32 0x00000000#32
  let main_v7 : FVec F S1000 .f32 := broadcastInDim S1000 ![] bcast_S_S1000 main_cst_2
  let main_v8 : IVec S1000 1 := cmpf .oeq main_arg7 main_v7
  let main_cst_3 : FVec F S_ .f32 := constant S_ .f32 0x00000000#32
  let main_v9 : FVec F S128 .f32 := broadcastInDim S128 ![] bcast_S_S128 main_cst_3
  let main_v10 : IVec S128 1 := cmpf .oeq main_arg9 main_v9
  let main_cst_4 : FVec F S_ .f32 := constant S_ .f32 0x00000000#32
  let main_v11 : FVec F S1 .f32 := broadcastInDim S1 ![] bcast_S_S1 main_cst_4
  let main_v12 : IVec S1 1 := cmpf .oeq main_arg11 main_v11
  (main_v4, main_v6, main_v8, main_v10, main_v12)
-- ==== Kernel.lean ====
abbrev S16384x480 : Shape := ⟨2, ![16384, 480]⟩
abbrev S16384x1000 : Shape := ⟨2, ![16384, 1000]⟩
abbrev S16384 : Shape := ⟨1, ![16384]⟩
abbrev S480x128 : Shape := ⟨2, ![480, 128]⟩
abbrev S128 : Shape := ⟨1, ![128]⟩
abbrev S128x1000 : Shape := ⟨2, ![128, 1000]⟩
abbrev S1000 : Shape := ⟨1, ![1000]⟩
abbrev S128x1 : Shape := ⟨2, ![128, 1]⟩
abbrev S1 : Shape := ⟨1, ![1]⟩
abbrev S_ : Shape := ⟨0, ![]⟩
abbrev S2 : Shape := ⟨1, ![2]⟩
abbrev S1x1 : Shape := ⟨2, ![1, 1]⟩
abbrev S1000x16384 : Shape := ⟨2, ![1000, 16384]⟩
abbrev S480x16384 : Shape := ⟨2, ![480, 16384]⟩
abbrev S1x16384 : Shape := ⟨2, ![1, 16384]⟩
abbrev S1000x128 : Shape := ⟨2, ![1000, 128]⟩
abbrev S480x1024 : Shape := ⟨2, ![480, 1024]⟩
abbrev S1000x1024 : Shape := ⟨2, ![1000, 1024]⟩
abbrev S1x1024 : Shape := ⟨2, ![1, 1024]⟩
abbrev S128x1024 : Shape := ⟨2, ![128, 1024]⟩
abbrev S1024 : Shape := ⟨1, ![1024]⟩

abbrev nBuf : Space → Nat
  | .hbm => 301
  | .vmem => 20
  | .smem => 0
  | _ => 0

abbrev hbmTy0_0 (i : Nat) : BufTy := match i % 128 with
  | 0 => ⟨S16384x480, .f32⟩
  | 1 => ⟨S16384x480, .f32⟩
  | 2 => ⟨S16384x1000, .f32⟩
  | 3 => ⟨S16384, .i32⟩
  | 4 => ⟨S480x128, .f32⟩
  | 5 => ⟨S128, .f32⟩
  | 6 => ⟨S128x1000, .f32⟩
  | 7 => ⟨S1000, .f32⟩
  | 8 => ⟨S480x128, .f32⟩
  | 9 => ⟨S128, .f32⟩
  | 10 => ⟨S128x1, .f32⟩
  | 11 => ⟨S1, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S_, .f32⟩
  | 23 => ⟨S_, .f32⟩
  | 24 => ⟨S_, .f32⟩
  | 25 => ⟨S1x1, .f32⟩
  | 26 => ⟨S1x1, .f32⟩
  | 27 => ⟨S1, .i32⟩
  | 28 => ⟨S_, .i32⟩
  | 29 => ⟨S1, .i32⟩
  | 30 => ⟨S_, .i32⟩
  | 31 => ⟨S16384x1000, .i64⟩
  | 32 => ⟨S16384x1000, .i64⟩
  | 33 => ⟨S_, .i64⟩
  | 34 => ⟨S16384x1000, .i64⟩
  | 35 => ⟨S16384x1000, .i64⟩
  | 36 => ⟨S_, .i64⟩
  | 37 => ⟨S16384x1000, .i64⟩
  | 38 => ⟨S16384x1000, .i64⟩
  | 39 => ⟨S16384x1000, .i64⟩
  | 40 => ⟨S_, .i64⟩
  | 41 => ⟨S16384x1000, .i64⟩
  | 42 => ⟨S16384x1000, .i64⟩
  | 43 => ⟨S16384x1000, .i32⟩
  | 44 => ⟨S16384x1000, .i32⟩
  | 45 => ⟨S_, .i32⟩
  | 46 => ⟨S_, .i32⟩
  | 47 => ⟨S_, .i32⟩
  | 48 => ⟨S16384x1000, .i32⟩
  | 49 => ⟨S16384x1000, .i32⟩
  | 50 => ⟨S16384x1000, .i32⟩
  | 51 => ⟨S16384x1000, .i32⟩
  | 52 => ⟨S16384x1000, .i32⟩
  | 53 => ⟨S_, .i32⟩
  | 54 => ⟨S16384x1000, .i32⟩
  | 55 => ⟨S16384x1000, .i32⟩
  | 56 => ⟨S_, .i32⟩
  | 57 => ⟨S16384x1000, .i32⟩
  | 58 => ⟨S16384x1000, .i32⟩
  | 59 => ⟨S16384x1000, .i32⟩
  | 60 => ⟨S16384x1000, .i32⟩
  | 61 => ⟨S16384x1000, .i32⟩
  | 62 => ⟨S_, .i32⟩
  | 63 => ⟨S16384x1000, .i32⟩
  | 64 => ⟨S16384x1000, .i32⟩
  | 65 => ⟨S_, .i32⟩
  | 66 => ⟨S16384x1000, .i32⟩
  | 67 => ⟨S16384x1000, .i32⟩
  | 68 => ⟨S16384x1000, .i32⟩
  | 69 => ⟨S16384x1000, .i32⟩
  | 70 => ⟨S16384x1000, .i32⟩
  | 71 => ⟨S_, .i32⟩
  | 72 => ⟨S16384x1000, .i32⟩
  | 73 => ⟨S16384x1000, .i32⟩
  | 74 => ⟨S_, .i32⟩
  | 75 => ⟨S16384x1000, .i32⟩
  | 76 => ⟨S16384x1000, .i32⟩
  | 77 => ⟨S16384x1000, .i32⟩
  | 78 => ⟨S16384x1000, .i32⟩
  | 79 => ⟨S16384x1000, .i32⟩
  | 80 => ⟨S_, .i32⟩
  | 81 => ⟨S16384x1000, .i32⟩
  | 82 => ⟨S16384x1000, .i32⟩
  | 83 => ⟨S_, .i32⟩
  | 84 => ⟨S16384x1000, .i32⟩
  | 85 => ⟨S16384x1000, .i32⟩
  | 86 => ⟨S16384x1000, .i32⟩
  | 87 => ⟨S16384x1000, .i32⟩
  | 88 => ⟨S16384x1000, .i32⟩
  | 89 => ⟨S16384x1000, .i32⟩
  | 90 => ⟨S16384x1000, .i32⟩
  | 91 => ⟨S16384x1000, .i32⟩
  | 92 => ⟨S_, .i32⟩
  | 93 => ⟨S16384x1000, .i32⟩
  | 94 => ⟨S16384x1000, .i32⟩
  | 95 => ⟨S16384x1000, .i32⟩
  | 96 => ⟨S_, .i32⟩
  | 97 => ⟨S16384x1000, .i32⟩
  | 98 => ⟨S16384x1000, .i32⟩
  | 99 => ⟨S_, .i32⟩
  | 100 => ⟨S16384x1000, .i32⟩
  | 101 => ⟨S16384x1000, .i32⟩
  | 102 => ⟨S16384x1000, .i32⟩
  | 103 => ⟨S16384x1000, .i32⟩
  | 104 => ⟨S16384x1000, .i32⟩
  | 105 => ⟨S_, .i32⟩
  | 106 => ⟨S16384x1000, .i32⟩
  | 107 => ⟨S16384x1000, .i32⟩
  | 108 => ⟨S_, .i32⟩
  | 109 => ⟨S16384x1000, .i32⟩
  | 110 => ⟨S16384x1000, .i32⟩
  | 111 => ⟨S16384x1000, .i32⟩
  | 112 => ⟨S16384x1000, .i32⟩
  | 113 => ⟨S16384x1000, .i32⟩
  | 114 => ⟨S_, .i32⟩
  | 115 => ⟨S16384x1000, .i32⟩
  | 116 => ⟨S16384x1000, .i32⟩
  | 117 => ⟨S_, .i32⟩
  | 118 => ⟨S16384x1000, .i32⟩
  | 119 => ⟨S16384x1000, .i32⟩
  | 120 => ⟨S16384x1000, .i32⟩
  | 121 => ⟨S16384x1000, .i32⟩
  | 122 => ⟨S16384x1000, .i32⟩
  | 123 => ⟨S_, .i32⟩
  | 124 => ⟨S16384x1000, .i32⟩
  | 125 => ⟨S16384x1000, .i32⟩
  | 126 => ⟨S_, .i32⟩
  | 127 => ⟨S16384x1000, .i32⟩
  | _ => ⟨S16384x480, .f32⟩

abbrev hbmTy0_1 (i : Nat) : BufTy := match i % 128 with
  | 0 => ⟨S16384x1000, .i32⟩
  | 1 => ⟨S16384x1000, .i32⟩
  | 2 => ⟨S16384x1000, .i32⟩
  | 3 => ⟨S16384x1000, .i32⟩
  | 4 => ⟨S16384x1000, .i32⟩
  | 5 => ⟨S16384x1000, .i32⟩
  | 6 => ⟨S16384x1000, .i32⟩
  | 7 => ⟨S_, .i32⟩
  | 8 => ⟨S16384x1000, .i32⟩
  | 9 => ⟨S16384x1000, .i32⟩
  | 10 => ⟨S16384x1000, .i32⟩
  | 11 => ⟨S_, .i32⟩
  | 12 => ⟨S16384x1000, .i32⟩
  | 13 => ⟨S16384x1000, .i32⟩
  | 14 => ⟨S_, .i32⟩
  | 15 => ⟨S16384x1000, .i32⟩
  | 16 => ⟨S16384x1000, .i32⟩
  | 17 => ⟨S16384x1000, .i32⟩
  | 18 => ⟨S16384x1000, .i32⟩
  | 19 => ⟨S16384x1000, .i32⟩
  | 20 => ⟨S_, .i32⟩
  | 21 => ⟨S16384x1000, .i32⟩
  | 22 => ⟨S16384x1000, .i32⟩
  | 23 => ⟨S_, .i32⟩
  | 24 => ⟨S16384x1000, .i32⟩
  | 25 => ⟨S16384x1000, .i32⟩
  | 26 => ⟨S16384x1000, .i32⟩
  | 27 => ⟨S16384x1000, .i32⟩
  | 28 => ⟨S16384x1000, .i32⟩
  | 29 => ⟨S_, .i32⟩
  | 30 => ⟨S16384x1000, .i32⟩
  | 31 => ⟨S16384x1000, .i32⟩
  | 32 => ⟨S_, .i32⟩
  | 33 => ⟨S16384x1000, .i32⟩
  | 34 => ⟨S16384x1000, .i32⟩
  | 35 => ⟨S16384x1000, .i32⟩
  | 36 => ⟨S16384x1000, .i32⟩
  | 37 => ⟨S16384x1000, .i32⟩
  | 38 => ⟨S_, .i32⟩
  | 39 => ⟨S16384x1000, .i32⟩
  | 40 => ⟨S16384x1000, .i32⟩
  | 41 => ⟨S_, .i32⟩
  | 42 => ⟨S16384x1000, .i32⟩
  | 43 => ⟨S16384x1000, .i32⟩
  | 44 => ⟨S16384x1000, .i32⟩
  | 45 => ⟨S16384x1000, .i32⟩
  | 46 => ⟨S16384x1000, .i32⟩
  | 47 => ⟨S16384x1000, .i32⟩
  | 48 => ⟨S16384x1000, .i32⟩
  | 49 => ⟨S16384x1000, .i32⟩
  | 50 => ⟨S_, .i32⟩
  | 51 => ⟨S16384x1000, .i32⟩
  | 52 => ⟨S16384x1000, .i32⟩
  | 53 => ⟨S16384x1000, .i32⟩
  | 54 => ⟨S_, .i32⟩
  | 55 => ⟨S16384x1000, .i32⟩
  | 56 => ⟨S16384x1000, .i32⟩
  | 57 => ⟨S_, .i32⟩
  | 58 => ⟨S16384x1000, .i32⟩
  | 59 => ⟨S16384x1000, .i32⟩
  | 60 => ⟨S16384x1000, .i32⟩
  | 61 => ⟨S16384x1000, .i32⟩
  | 62 => ⟨S16384x1000, .i32⟩
  | 63 => ⟨S_, .i32⟩
  | 64 => ⟨S16384x1000, .i32⟩
  | 65 => ⟨S16384x1000, .i32⟩
  | 66 => ⟨S_, .i32⟩
  | 67 => ⟨S16384x1000, .i32⟩
  | 68 => ⟨S16384x1000, .i32⟩
  | 69 => ⟨S16384x1000, .i32⟩
  | 70 => ⟨S16384x1000, .i32⟩
  | 71 => ⟨S16384x1000, .i32⟩
  | 72 => ⟨S_, .i32⟩
  | 73 => ⟨S16384x1000, .i32⟩
  | 74 => ⟨S16384x1000, .i32⟩
  | 75 => ⟨S_, .i32⟩
  | 76 => ⟨S16384x1000, .i32⟩
  | 77 => ⟨S16384x1000, .i32⟩
  | 78 => ⟨S16384x1000, .i32⟩
  | 79 => ⟨S16384x1000, .i32⟩
  | 80 => ⟨S16384x1000, .i32⟩
  | 81 => ⟨S_, .i32⟩
  | 82 => ⟨S16384x1000, .i32⟩
  | 83 => ⟨S16384x1000, .i32⟩
  | 84 => ⟨S_, .i32⟩
  | 85 => ⟨S16384x1000, .i32⟩
  | 86 => ⟨S16384x1000, .i32⟩
  | 87 => ⟨S16384x1000, .i32⟩
  | 88 => ⟨S16384x1000, .i32⟩
  | 89 => ⟨S16384x1000, .i32⟩
  | 90 => ⟨S16384x1000, .i32⟩
  | 91 => ⟨S16384x1000, .i32⟩
  | 92 => ⟨S16384x1000, .i32⟩
  | 93 => ⟨S_, .i32⟩
  | 94 => ⟨S16384x1000, .i32⟩
  | 95 => ⟨S16384x1000, .i32⟩
  | 96 => ⟨S16384x1000, .i32⟩
  | 97 => ⟨S_, .i32⟩
  | 98 => ⟨S16384x1000, .i32⟩
  | 99 => ⟨S16384x1000, .i32⟩
  | 100 => ⟨S_, .i32⟩
  | 101 => ⟨S16384x1000, .i32⟩
  | 102 => ⟨S16384x1000, .i32⟩
  | 103 => ⟨S16384x1000, .i32⟩
  | 104 => ⟨S16384x1000, .i32⟩
  | 105 => ⟨S16384x1000, .i32⟩
  | 106 => ⟨S_, .i32⟩
  | 107 => ⟨S16384x1000, .i32⟩
  | 108 => ⟨S16384x1000, .i32⟩
  | 109 => ⟨S_, .i32⟩
  | 110 => ⟨S16384x1000, .i32⟩
  | 111 => ⟨S16384x1000, .i32⟩
  | 112 => ⟨S16384x1000, .i32⟩
  | 113 => ⟨S16384x1000, .i32⟩
  | 114 => ⟨S16384x1000, .i32⟩
  | 115 => ⟨S_, .i32⟩
  | 116 => ⟨S16384x1000, .i32⟩
  | 117 => ⟨S16384x1000, .i32⟩
  | 118 => ⟨S_, .i32⟩
  | 119 => ⟨S16384x1000, .i32⟩
  | 120 => ⟨S16384x1000, .i32⟩
  | 121 => ⟨S16384x1000, .i32⟩
  | 122 => ⟨S16384x1000, .i32⟩
  | 123 => ⟨S16384x1000, .i32⟩
  | 124 => ⟨S_, .i32⟩
  | 125 => ⟨S16384x1000, .i32⟩
  | 126 => ⟨S16384x1000, .i32⟩
  | 127 => ⟨S_, .i32⟩
  | _ => ⟨S16384x480, .f32⟩

abbrev hbmTy0_2 (i : Nat) : BufTy := match i % 128 with
  | 0 => ⟨S16384x1000, .i32⟩
  | 1 => ⟨S16384x1000, .i32⟩
  | 2 => ⟨S16384x1000, .i32⟩
  | 3 => ⟨S16384x1000, .i32⟩
  | 4 => ⟨S16384x1000, .i32⟩
  | 5 => ⟨S16384x1000, .i32⟩
  | 6 => ⟨S16384x1000, .i32⟩
  | 7 => ⟨S16384x1000, .i32⟩
  | 8 => ⟨S_, .i32⟩
  | 9 => ⟨S16384x1000, .i32⟩
  | 10 => ⟨S16384x1000, .i32⟩
  | 11 => ⟨S16384x1000, .i32⟩
  | 12 => ⟨S_, .i32⟩
  | 13 => ⟨S16384x1000, .i32⟩
  | 14 => ⟨S16384x1000, .i32⟩
  | 15 => ⟨S_, .i32⟩
  | 16 => ⟨S16384x1000, .i32⟩
  | 17 => ⟨S16384x1000, .i32⟩
  | 18 => ⟨S16384x1000, .f32⟩
  | 19 => ⟨S_, .f32⟩
  | 20 => ⟨S16384x1000, .f32⟩
  | 21 => ⟨S16384x1000, .f32⟩
  | 22 => ⟨S1x1, .f32⟩
  | 23 => ⟨S16384x1000, .f32⟩
  | 24 => ⟨S16384x1000, .f32⟩
  | 25 => ⟨S16384x1000, .f32⟩
  | 26 => ⟨S16384x1000, .f32⟩
  | 27 => ⟨S16384x1000, .f32⟩
  | 28 => ⟨S16384x1000, .f32⟩
  | 29 => ⟨S16384x1000, .f32⟩
  | 30 => ⟨S16384x1000, .f32⟩
  | 31 => ⟨S16384x1000, .f32⟩
  | 32 => ⟨S16384x1000, .f32⟩
  | 33 => ⟨S1000x16384, .f32⟩
  | 34 => ⟨S480x16384, .f32⟩
  | 35 => ⟨S480x16384, .f32⟩
  | 36 => ⟨S1000x16384, .f32⟩
  | 37 => ⟨S1x16384, .i32⟩
  | 38 => ⟨S1000x128, .f32⟩
  | 39 => ⟨S1x16384, .i32⟩
  | 40 => ⟨S1000x16384, .f32⟩
  | 41 => ⟨S1x16384, .f32⟩
  | 42 => ⟨S16384, .i32⟩
  | 43 => ⟨S16384x1000, .f32⟩
  | 44 => ⟨S16384, .f32⟩
  | _ => ⟨S16384x480, .f32⟩

abbrev hbmTy (i : Nat) : BufTy := match i / 128 with
  | 0 => hbmTy0_0 i
  | 1 => hbmTy0_1 i
  | 2 => hbmTy0_2 i
  | _ => ⟨S16384x480, .f32⟩

abbrev bufTy : (tb : Table) → Fin (tcTables nBuf tb) → BufTy
  | .hbm, ⟨i, _⟩ => hbmTy i
  | .local _ .vmem, ⟨0, _⟩ => ⟨S480x1024, .f32⟩
  | .local _ .vmem, ⟨1, _⟩ => ⟨S480x1024, .f32⟩
  | .local _ .vmem, ⟨2, _⟩ => ⟨S480x1024, .f32⟩
  | .local _ .vmem, ⟨3, _⟩ => ⟨S480x1024, .f32⟩
  | .local _ .vmem, ⟨4, _⟩ => ⟨S1000x1024, .f32⟩
  | .local _ .vmem, ⟨5, _⟩ => ⟨S1000x1024, .f32⟩
  | .local _ .vmem, ⟨6, _⟩ => ⟨S1x1024, .i32⟩
  | .local _ .vmem, ⟨7, _⟩ => ⟨S1x1024, .i32⟩
  | .local _ .vmem, ⟨8, _⟩ => ⟨S1000x1024, .f32⟩
  | .local _ .vmem, ⟨9, _⟩ => ⟨S1000x1024, .f32⟩
  | .local _ .vmem, ⟨10, _⟩ => ⟨S480x128, .f32⟩
  | .local _ .vmem, ⟨11, _⟩ => ⟨S1000x128, .f32⟩
  | .local _ .vmem, ⟨12, _⟩ => ⟨S480x128, .f32⟩
  | .local _ .vmem, ⟨13, _⟩ => ⟨S128x1, .f32⟩
  | .local _ .vmem, ⟨14, _⟩ => ⟨S1x1024, .i32⟩
  | .local _ .vmem, ⟨15, _⟩ => ⟨S1x1024, .i32⟩
  | .local _ .vmem, ⟨16, _⟩ => ⟨S1000x1024, .f32⟩
  | .local _ .vmem, ⟨17, _⟩ => ⟨S1000x1024, .f32⟩
  | .local _ .vmem, ⟨18, _⟩ => ⟨S1x1024, .f32⟩
  | .local _ .vmem, ⟨19, _⟩ => ⟨S1x1024, .f32⟩
  | _, _ => ⟨S16384x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_cst : Ref sig .tc := ⟨.hbm, 22, rfl⟩
abbrev main_call0_cst_0 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_c : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_c_0 : Ref sig .tc := ⟨.hbm, 36, rfl⟩
abbrev main_call0_call0_v11 : Ref sig .tc := ⟨.hbm, 37, rfl⟩
abbrev main_call0_call0_v12 : Ref sig .tc := ⟨.hbm, 38, rfl⟩
abbrev main_call0_call0_v13 : Ref sig .tc := ⟨.hbm, 39, rfl⟩
abbrev main_call0_call0_c_1 : Ref sig .tc := ⟨.hbm, 40, rfl⟩
abbrev main_call0_call0_v14 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_v17 : Ref sig .tc := ⟨.hbm, 44, rfl⟩
abbrev main_call0_call0_call0_v0 : Ref sig .tc := ⟨.hbm, 45, rfl⟩
abbrev main_call0_call0_call0_c : Ref sig .tc := ⟨.hbm, 46, rfl⟩
abbrev main_call0_call0_call0_v1 : Ref sig .tc := ⟨.hbm, 47, rfl⟩
abbrev main_call0_call0_call0_v2 : Ref sig .tc := ⟨.hbm, 48, rfl⟩
abbrev main_call0_call0_call0_v3 : Ref sig .tc := ⟨.hbm, 49, rfl⟩
abbrev main_call0_call0_call0_v4 : Ref sig .tc := ⟨.hbm, 50, rfl⟩
abbrev main_call0_call0_call0_v5 : Ref sig .tc := ⟨.hbm, 51, rfl⟩
abbrev main_call0_call0_call0_v6 : Ref sig .tc := ⟨.hbm, 52, rfl⟩
abbrev main_call0_call0_call0_c_0 : Ref sig .tc := ⟨.hbm, 53, rfl⟩
abbrev main_call0_call0_call0_v7 : Ref sig .tc := ⟨.hbm, 54, rfl⟩
abbrev main_call0_call0_call0_v8 : Ref sig .tc := ⟨.hbm, 55, rfl⟩
abbrev main_call0_call0_call0_c_1 : Ref sig .tc := ⟨.hbm, 56, rfl⟩
abbrev main_call0_call0_call0_v9 : Ref sig .tc := ⟨.hbm, 57, rfl⟩
abbrev main_call0_call0_call0_v10 : Ref sig .tc := ⟨.hbm, 58, rfl⟩
abbrev main_call0_call0_call0_v11 : Ref sig .tc := ⟨.hbm, 59, rfl⟩
abbrev main_call0_call0_call0_v12 : Ref sig .tc := ⟨.hbm, 60, rfl⟩
abbrev main_call0_call0_call0_v13 : Ref sig .tc := ⟨.hbm, 61, rfl⟩
abbrev main_call0_call0_call0_c_2 : Ref sig .tc := ⟨.hbm, 62, rfl⟩
abbrev main_call0_call0_call0_v14 : Ref sig .tc := ⟨.hbm, 63, rfl⟩
abbrev main_call0_call0_call0_v15 : Ref sig .tc := ⟨.hbm, 64, rfl⟩
abbrev main_call0_call0_call0_c_3 : Ref sig .tc := ⟨.hbm, 65, rfl⟩
abbrev main_call0_call0_call0_v16 : Ref sig .tc := ⟨.hbm, 66, rfl⟩
abbrev main_call0_call0_call0_v17 : Ref sig .tc := ⟨.hbm, 67, rfl⟩
abbrev main_call0_call0_call0_v18 : Ref sig .tc := ⟨.hbm, 68, rfl⟩
abbrev main_call0_call0_call0_v19 : Ref sig .tc := ⟨.hbm, 69, rfl⟩
abbrev main_call0_call0_call0_v20 : Ref sig .tc := ⟨.hbm, 70, rfl⟩
abbrev main_call0_call0_call0_c_4 : Ref sig .tc := ⟨.hbm, 71, rfl⟩
abbrev main_call0_call0_call0_v21 : Ref sig .tc := ⟨.hbm, 72, rfl⟩
abbrev main_call0_call0_call0_v22 : Ref sig .tc := ⟨.hbm, 73, rfl⟩
abbrev main_call0_call0_call0_c_5 : Ref sig .tc := ⟨.hbm, 74, rfl⟩
abbrev main_call0_call0_call0_v23 : Ref sig .tc := ⟨.hbm, 75, rfl⟩
abbrev main_call0_call0_call0_v24 : Ref sig .tc := ⟨.hbm, 76, rfl⟩
abbrev main_call0_call0_call0_v25 : Ref sig .tc := ⟨.hbm, 77, rfl⟩
abbrev main_call0_call0_call0_v26 : Ref sig .tc := ⟨.hbm, 78, rfl⟩
abbrev main_call0_call0_call0_v27 : Ref sig .tc := ⟨.hbm, 79, rfl⟩
abbrev main_call0_call0_call0_c_6 : Ref sig .tc := ⟨.hbm, 80, rfl⟩
abbrev main_call0_call0_call0_v28 : Ref sig .tc := ⟨.hbm, 81, rfl⟩
abbrev main_call0_call0_call0_v29 : Ref sig .tc := ⟨.hbm, 82, rfl⟩
abbrev main_call0_call0_call0_c_7 : Ref sig .tc := ⟨.hbm, 83, rfl⟩
abbrev main_call0_call0_call0_v30 : Ref sig .tc := ⟨.hbm, 84, rfl⟩
abbrev main_call0_call0_call0_v31 : Ref sig .tc := ⟨.hbm, 85, rfl⟩
abbrev main_call0_call0_call0_v32 : Ref sig .tc := ⟨.hbm, 86, rfl⟩
abbrev main_call0_call0_call0_v33 : Ref sig .tc := ⟨.hbm, 87, rfl⟩
abbrev main_call0_call0_call0_v34 : Ref sig .tc := ⟨.hbm, 88, rfl⟩
abbrev main_call0_call0_call0_v35 : Ref sig .tc := ⟨.hbm, 89, rfl⟩
abbrev main_call0_call0_call0_v36 : Ref sig .tc := ⟨.hbm, 90, rfl⟩
abbrev main_call0_call0_call0_v37 : Ref sig .tc := ⟨.hbm, 91, rfl⟩
abbrev main_call0_call0_call0_c_8 : Ref sig .tc := ⟨.hbm, 92, rfl⟩
abbrev main_call0_call0_call0_v38 : Ref sig .tc := ⟨.hbm, 93, rfl⟩
abbrev main_call0_call0_call0_v39 : Ref sig .tc := ⟨.hbm, 94, rfl⟩
abbrev main_call0_call0_call0_v40 : Ref sig .tc := ⟨.hbm, 95, rfl⟩
abbrev main_call0_call0_call0_c_9 : Ref sig .tc := ⟨.hbm, 96, rfl⟩
abbrev main_call0_call0_call0_v41 : Ref sig .tc := ⟨.hbm, 97, rfl⟩
abbrev main_call0_call0_call0_v42 : Ref sig .tc := ⟨.hbm, 98, rfl⟩
abbrev main_call0_call0_call0_c_10 : Ref sig .tc := ⟨.hbm, 99, rfl⟩
abbrev main_call0_call0_call0_v43 : Ref sig .tc := ⟨.hbm, 100, rfl⟩
abbrev main_call0_call0_call0_v44 : Ref sig .tc := ⟨.hbm, 101, rfl⟩
abbrev main_call0_call0_call0_v45 : Ref sig .tc := ⟨.hbm, 102, rfl⟩
abbrev main_call0_call0_call0_v46 : Ref sig .tc := ⟨.hbm, 103, rfl⟩
abbrev main_call0_call0_call0_v47 : Ref sig .tc := ⟨.hbm, 104, rfl⟩
abbrev main_call0_call0_call0_c_11 : Ref sig .tc := ⟨.hbm, 105, rfl⟩
abbrev main_call0_call0_call0_v48 : Ref sig .tc := ⟨.hbm, 106, rfl⟩
abbrev main_call0_call0_call0_v49 : Ref sig .tc := ⟨.hbm, 107, rfl⟩
abbrev main_call0_call0_call0_c_12 : Ref sig .tc := ⟨.hbm, 108, rfl⟩
abbrev main_call0_call0_call0_v50 : Ref sig .tc := ⟨.hbm, 109, rfl⟩
abbrev main_call0_call0_call0_v51 : Ref sig .tc := ⟨.hbm, 110, rfl⟩
abbrev main_call0_call0_call0_v52 : Ref sig .tc := ⟨.hbm, 111, rfl⟩
abbrev main_call0_call0_call0_v53 : Ref sig .tc := ⟨.hbm, 112, rfl⟩
abbrev main_call0_call0_call0_v54 : Ref sig .tc := ⟨.hbm, 113, rfl⟩
abbrev main_call0_call0_call0_c_13 : Ref sig .tc := ⟨.hbm, 114, rfl⟩
abbrev main_call0_call0_call0_v55 : Ref sig .tc := ⟨.hbm, 115, rfl⟩
abbrev main_call0_call0_call0_v56 : Ref sig .tc := ⟨.hbm, 116, rfl⟩
abbrev main_call0_call0_call0_c_14 : Ref sig .tc := ⟨.hbm, 117, rfl⟩
abbrev main_call0_call0_call0_v57 : Ref sig .tc := ⟨.hbm, 118, rfl⟩
abbrev main_call0_call0_call0_v58 : Ref sig .tc := ⟨.hbm, 119, rfl⟩
abbrev main_call0_call0_call0_v59 : Ref sig .tc := ⟨.hbm, 120, rfl⟩
abbrev main_call0_call0_call0_v60 : Ref sig .tc := ⟨.hbm, 121, rfl⟩
abbrev main_call0_call0_call0_v61 : Ref sig .tc := ⟨.hbm, 122, rfl⟩
abbrev main_call0_call0_call0_c_15 : Ref sig .tc := ⟨.hbm, 123, rfl⟩
abbrev main_call0_call0_call0_v62 : Ref sig .tc := ⟨.hbm, 124, rfl⟩
abbrev main_call0_call0_call0_v63 : Ref sig .tc := ⟨.hbm, 125, rfl⟩
abbrev main_call0_call0_call0_c_16 : Ref sig .tc := ⟨.hbm, 126, rfl⟩
abbrev main_call0_call0_call0_v64 : Ref sig .tc := ⟨.hbm, 127, rfl⟩
abbrev main_call0_call0_call0_v65 : Ref sig .tc := ⟨.hbm, 128, rfl⟩
abbrev main_call0_call0_call0_v66 : Ref sig .tc := ⟨.hbm, 129, rfl⟩
abbrev main_call0_call0_call0_v67 : Ref sig .tc := ⟨.hbm, 130, rfl⟩
abbrev main_call0_call0_call0_v68 : Ref sig .tc := ⟨.hbm, 131, rfl⟩
abbrev main_call0_call0_call0_v69 : Ref sig .tc := ⟨.hbm, 132, rfl⟩
abbrev main_call0_call0_call0_v70 : Ref sig .tc := ⟨.hbm, 133, rfl⟩
abbrev main_call0_call0_call0_v71 : Ref sig .tc := ⟨.hbm, 134, rfl⟩
abbrev main_call0_call0_call0_c_17 : Ref sig .tc := ⟨.hbm, 135, rfl⟩
abbrev main_call0_call0_call0_v72 : Ref sig .tc := ⟨.hbm, 136, rfl⟩
abbrev main_call0_call0_call0_v73 : Ref sig .tc := ⟨.hbm, 137, rfl⟩
abbrev main_call0_call0_call0_v74 : Ref sig .tc := ⟨.hbm, 138, rfl⟩
abbrev main_call0_call0_call0_c_18 : Ref sig .tc := ⟨.hbm, 139, rfl⟩
abbrev main_call0_call0_call0_v75 : Ref sig .tc := ⟨.hbm, 140, rfl⟩
abbrev main_call0_call0_call0_v76 : Ref sig .tc := ⟨.hbm, 141, rfl⟩
abbrev main_call0_call0_call0_c_19 : Ref sig .tc := ⟨.hbm, 142, rfl⟩
abbrev main_call0_call0_call0_v77 : Ref sig .tc := ⟨.hbm, 143, rfl⟩
abbrev main_call0_call0_call0_v78 : Ref sig .tc := ⟨.hbm, 144, rfl⟩
abbrev main_call0_call0_call0_v79 : Ref sig .tc := ⟨.hbm, 145, rfl⟩
abbrev main_call0_call0_call0_v80 : Ref sig .tc := ⟨.hbm, 146, rfl⟩
abbrev main_call0_call0_call0_v81 : Ref sig .tc := ⟨.hbm, 147, rfl⟩
abbrev main_call0_call0_call0_c_20 : Ref sig .tc := ⟨.hbm, 148, rfl⟩
abbrev main_call0_call0_call0_v82 : Ref sig .tc := ⟨.hbm, 149, rfl⟩
abbrev main_call0_call0_call0_v83 : Ref sig .tc := ⟨.hbm, 150, rfl⟩
abbrev main_call0_call0_call0_c_21 : Ref sig .tc := ⟨.hbm, 151, rfl⟩
abbrev main_call0_call0_call0_v84 : Ref sig .tc := ⟨.hbm, 152, rfl⟩
abbrev main_call0_call0_call0_v85 : Ref sig .tc := ⟨.hbm, 153, rfl⟩
abbrev main_call0_call0_call0_v86 : Ref sig .tc := ⟨.hbm, 154, rfl⟩
abbrev main_call0_call0_call0_v87 : Ref sig .tc := ⟨.hbm, 155, rfl⟩
abbrev main_call0_call0_call0_v88 : Ref sig .tc := ⟨.hbm, 156, rfl⟩
abbrev main_call0_call0_call0_c_22 : Ref sig .tc := ⟨.hbm, 157, rfl⟩
abbrev main_call0_call0_call0_v89 : Ref sig .tc := ⟨.hbm, 158, rfl⟩
abbrev main_call0_call0_call0_v90 : Ref sig .tc := ⟨.hbm, 159, rfl⟩
abbrev main_call0_call0_call0_c_23 : Ref sig .tc := ⟨.hbm, 160, rfl⟩
abbrev main_call0_call0_call0_v91 : Ref sig .tc := ⟨.hbm, 161, rfl⟩
abbrev main_call0_call0_call0_v92 : Ref sig .tc := ⟨.hbm, 162, rfl⟩
abbrev main_call0_call0_call0_v93 : Ref sig .tc := ⟨.hbm, 163, rfl⟩
abbrev main_call0_call0_call0_v94 : Ref sig .tc := ⟨.hbm, 164, rfl⟩
abbrev main_call0_call0_call0_v95 : Ref sig .tc := ⟨.hbm, 165, rfl⟩
abbrev main_call0_call0_call0_c_24 : Ref sig .tc := ⟨.hbm, 166, rfl⟩
abbrev main_call0_call0_call0_v96 : Ref sig .tc := ⟨.hbm, 167, rfl⟩
abbrev main_call0_call0_call0_v97 : Ref sig .tc := ⟨.hbm, 168, rfl⟩
abbrev main_call0_call0_call0_c_25 : Ref sig .tc := ⟨.hbm, 169, rfl⟩
abbrev main_call0_call0_call0_v98 : Ref sig .tc := ⟨.hbm, 170, rfl⟩
abbrev main_call0_call0_call0_v99 : Ref sig .tc := ⟨.hbm, 171, rfl⟩
abbrev main_call0_call0_call0_v100 : Ref sig .tc := ⟨.hbm, 172, rfl⟩
abbrev main_call0_call0_call0_v101 : Ref sig .tc := ⟨.hbm, 173, rfl⟩
abbrev main_call0_call0_call0_v102 : Ref sig .tc := ⟨.hbm, 174, rfl⟩
abbrev main_call0_call0_call0_v103 : Ref sig .tc := ⟨.hbm, 175, rfl⟩
abbrev main_call0_call0_call0_v104 : Ref sig .tc := ⟨.hbm, 176, rfl⟩
abbrev main_call0_call0_call0_v105 : Ref sig .tc := ⟨.hbm, 177, rfl⟩
abbrev main_call0_call0_call0_c_26 : Ref sig .tc := ⟨.hbm, 178, rfl⟩
abbrev main_call0_call0_call0_v106 : Ref sig .tc := ⟨.hbm, 179, rfl⟩
abbrev main_call0_call0_call0_v107 : Ref sig .tc := ⟨.hbm, 180, rfl⟩
abbrev main_call0_call0_call0_v108 : Ref sig .tc := ⟨.hbm, 181, rfl⟩
abbrev main_call0_call0_call0_c_27 : Ref sig .tc := ⟨.hbm, 182, rfl⟩
abbrev main_call0_call0_call0_v109 : Ref sig .tc := ⟨.hbm, 183, rfl⟩
abbrev main_call0_call0_call0_v110 : Ref sig .tc := ⟨.hbm, 184, rfl⟩
abbrev main_call0_call0_call0_c_28 : Ref sig .tc := ⟨.hbm, 185, rfl⟩
abbrev main_call0_call0_call0_v111 : Ref sig .tc := ⟨.hbm, 186, rfl⟩
abbrev main_call0_call0_call0_v112 : Ref sig .tc := ⟨.hbm, 187, rfl⟩
abbrev main_call0_call0_call0_v113 : Ref sig .tc := ⟨.hbm, 188, rfl⟩
abbrev main_call0_call0_call0_v114 : Ref sig .tc := ⟨.hbm, 189, rfl⟩
abbrev main_call0_call0_call0_v115 : Ref sig .tc := ⟨.hbm, 190, rfl⟩
abbrev main_call0_call0_call0_c_29 : Ref sig .tc := ⟨.hbm, 191, rfl⟩
abbrev main_call0_call0_call0_v116 : Ref sig .tc := ⟨.hbm, 192, rfl⟩
abbrev main_call0_call0_call0_v117 : Ref sig .tc := ⟨.hbm, 193, rfl⟩
abbrev main_call0_call0_call0_c_30 : Ref sig .tc := ⟨.hbm, 194, rfl⟩
abbrev main_call0_call0_call0_v118 : Ref sig .tc := ⟨.hbm, 195, rfl⟩
abbrev main_call0_call0_call0_v119 : Ref sig .tc := ⟨.hbm, 196, rfl⟩
abbrev main_call0_call0_call0_v120 : Ref sig .tc := ⟨.hbm, 197, rfl⟩
abbrev main_call0_call0_call0_v121 : Ref sig .tc := ⟨.hbm, 198, rfl⟩
abbrev main_call0_call0_call0_v122 : Ref sig .tc := ⟨.hbm, 199, rfl⟩
abbrev main_call0_call0_call0_c_31 : Ref sig .tc := ⟨.hbm, 200, rfl⟩
abbrev main_call0_call0_call0_v123 : Ref sig .tc := ⟨.hbm, 201, rfl⟩
abbrev main_call0_call0_call0_v124 : Ref sig .tc := ⟨.hbm, 202, rfl⟩
abbrev main_call0_call0_call0_c_32 : Ref sig .tc := ⟨.hbm, 203, rfl⟩
abbrev main_call0_call0_call0_v125 : Ref sig .tc := ⟨.hbm, 204, rfl⟩
abbrev main_call0_call0_call0_v126 : Ref sig .tc := ⟨.hbm, 205, rfl⟩
abbrev main_call0_call0_call0_v127 : Ref sig .tc := ⟨.hbm, 206, rfl⟩
abbrev main_call0_call0_call0_v128 : Ref sig .tc := ⟨.hbm, 207, rfl⟩
abbrev main_call0_call0_call0_v129 : Ref sig .tc := ⟨.hbm, 208, rfl⟩
abbrev main_call0_call0_call0_c_33 : Ref sig .tc := ⟨.hbm, 209, rfl⟩
abbrev main_call0_call0_call0_v130 : Ref sig .tc := ⟨.hbm, 210, rfl⟩
abbrev main_call0_call0_call0_v131 : Ref sig .tc := ⟨.hbm, 211, rfl⟩
abbrev main_call0_call0_call0_c_34 : Ref sig .tc := ⟨.hbm, 212, rfl⟩
abbrev main_call0_call0_call0_v132 : Ref sig .tc := ⟨.hbm, 213, rfl⟩
abbrev main_call0_call0_call0_v133 : Ref sig .tc := ⟨.hbm, 214, rfl⟩
abbrev main_call0_call0_call0_v134 : Ref sig .tc := ⟨.hbm, 215, rfl⟩
abbrev main_call0_call0_call0_v135 : Ref sig .tc := ⟨.hbm, 216, rfl⟩
abbrev main_call0_call0_call0_v136 : Ref sig .tc := ⟨.hbm, 217, rfl⟩
abbrev main_call0_call0_call0_v137 : Ref sig .tc := ⟨.hbm, 218, rfl⟩
abbrev main_call0_call0_call0_v138 : Ref sig .tc := ⟨.hbm, 219, rfl⟩
abbrev main_call0_call0_call0_v139 : Ref sig .tc := ⟨.hbm, 220, rfl⟩
abbrev main_call0_call0_call0_c_35 : Ref sig .tc := ⟨.hbm, 221, rfl⟩
abbrev main_call0_call0_call0_v140 : Ref sig .tc := ⟨.hbm, 222, rfl⟩
abbrev main_call0_call0_call0_v141 : Ref sig .tc := ⟨.hbm, 223, rfl⟩
abbrev main_call0_call0_call0_v142 : Ref sig .tc := ⟨.hbm, 224, rfl⟩
abbrev main_call0_call0_call0_c_36 : Ref sig .tc := ⟨.hbm, 225, rfl⟩
abbrev main_call0_call0_call0_v143 : Ref sig .tc := ⟨.hbm, 226, rfl⟩
abbrev main_call0_call0_call0_v144 : Ref sig .tc := ⟨.hbm, 227, rfl⟩
abbrev main_call0_call0_call0_c_37 : Ref sig .tc := ⟨.hbm, 228, rfl⟩
abbrev main_call0_call0_call0_v145 : Ref sig .tc := ⟨.hbm, 229, rfl⟩
abbrev main_call0_call0_call0_v146 : Ref sig .tc := ⟨.hbm, 230, rfl⟩
abbrev main_call0_call0_call0_v147 : Ref sig .tc := ⟨.hbm, 231, rfl⟩
abbrev main_call0_call0_call0_v148 : Ref sig .tc := ⟨.hbm, 232, rfl⟩
abbrev main_call0_call0_call0_v149 : Ref sig .tc := ⟨.hbm, 233, rfl⟩
abbrev main_call0_call0_call0_c_38 : Ref sig .tc := ⟨.hbm, 234, rfl⟩
abbrev main_call0_call0_call0_v150 : Ref sig .tc := ⟨.hbm, 235, rfl⟩
abbrev main_call0_call0_call0_v151 : Ref sig .tc := ⟨.hbm, 236, rfl⟩
abbrev main_call0_call0_call0_c_39 : Ref sig .tc := ⟨.hbm, 237, rfl⟩
abbrev main_call0_call0_call0_v152 : Ref sig .tc := ⟨.hbm, 238, rfl⟩
abbrev main_call0_call0_call0_v153 : Ref sig .tc := ⟨.hbm, 239, rfl⟩
abbrev main_call0_call0_call0_v154 : Ref sig .tc := ⟨.hbm, 240, rfl⟩
abbrev main_call0_call0_call0_v155 : Ref sig .tc := ⟨.hbm, 241, rfl⟩
abbrev main_call0_call0_call0_v156 : Ref sig .tc := ⟨.hbm, 242, rfl⟩
abbrev main_call0_call0_call0_c_40 : Ref sig .tc := ⟨.hbm, 243, rfl⟩
abbrev main_call0_call0_call0_v157 : Ref sig .tc := ⟨.hbm, 244, rfl⟩
abbrev main_call0_call0_call0_v158 : Ref sig .tc := ⟨.hbm, 245, rfl⟩
abbrev main_call0_call0_call0_c_41 : Ref sig .tc := ⟨.hbm, 246, rfl⟩
abbrev main_call0_call0_call0_v159 : Ref sig .tc := ⟨.hbm, 247, rfl⟩
abbrev main_call0_call0_call0_v160 : Ref sig .tc := ⟨.hbm, 248, rfl⟩
abbrev main_call0_call0_call0_v161 : Ref sig .tc := ⟨.hbm, 249, rfl⟩
abbrev main_call0_call0_call0_v162 : Ref sig .tc := ⟨.hbm, 250, rfl⟩
abbrev main_call0_call0_call0_v163 : Ref sig .tc := ⟨.hbm, 251, rfl⟩
abbrev main_call0_call0_call0_c_42 : Ref sig .tc := ⟨.hbm, 252, rfl⟩
abbrev main_call0_call0_call0_v164 : Ref sig .tc := ⟨.hbm, 253, rfl⟩
abbrev main_call0_call0_call0_v165 : Ref sig .tc := ⟨.hbm, 254, rfl⟩
abbrev main_call0_call0_call0_c_43 : Ref sig .tc := ⟨.hbm, 255, rfl⟩
abbrev main_call0_call0_call0_v166 : Ref sig .tc := ⟨.hbm, 256, rfl⟩
abbrev main_call0_call0_call0_v167 : Ref sig .tc := ⟨.hbm, 257, rfl⟩
abbrev main_call0_call0_call0_v168 : Ref sig .tc := ⟨.hbm, 258, rfl⟩
abbrev main_call0_call0_call0_v169 : Ref sig .tc := ⟨.hbm, 259, rfl⟩
abbrev main_call0_call0_call0_v170 : Ref sig .tc := ⟨.hbm, 260, rfl⟩
abbrev main_call0_call0_v18_0 : Ref sig .tc := ⟨.hbm, 261, rfl⟩
abbrev main_call0_call0_call0_v172 : Ref sig .tc := ⟨.hbm, 262, rfl⟩
abbrev main_call0_call0_call0_v173 : Ref sig .tc := ⟨.hbm, 263, rfl⟩
abbrev main_call0_call0_call0_c_44 : Ref sig .tc := ⟨.hbm, 264, rfl⟩
abbrev main_call0_call0_call0_v174 : Ref sig .tc := ⟨.hbm, 265, rfl⟩
abbrev main_call0_call0_v18_1 : Ref sig .tc := ⟨.hbm, 266, rfl⟩
abbrev main_call0_call0_v19 : Ref sig .tc := ⟨.hbm, 267, rfl⟩
abbrev main_call0_call0_c_2 : Ref sig .tc := ⟨.hbm, 268, rfl⟩
abbrev main_call0_call0_v20 : Ref sig .tc := ⟨.hbm, 269, rfl⟩
abbrev main_call0_call0_v21 : Ref sig .tc := ⟨.hbm, 270, rfl⟩
abbrev main_call0_call0_c_3 : Ref sig .tc := ⟨.hbm, 271, rfl⟩
abbrev main_call0_call0_v22 : Ref sig .tc := ⟨.hbm, 272, rfl⟩
abbrev main_call0_call0_v23 : Ref sig .tc := ⟨.hbm, 273, rfl⟩
abbrev main_call0_call0_v24 : Ref sig .tc := ⟨.hbm, 274, rfl⟩
abbrev main_call0_call0_cst : Ref sig .tc := ⟨.hbm, 275, rfl⟩
abbrev main_call0_call0_v25 : Ref sig .tc := ⟨.hbm, 276, rfl⟩
abbrev main_call0_call0_v26 : Ref sig .tc := ⟨.hbm, 277, rfl⟩
abbrev main_call0_call0_v27 : Ref sig .tc := ⟨.hbm, 278, rfl⟩
abbrev main_call0_call0_v28 : Ref sig .tc := ⟨.hbm, 279, rfl⟩
abbrev main_call0_call0_v29 : Ref sig .tc := ⟨.hbm, 280, rfl⟩
abbrev main_call0_call0_v30 : Ref sig .tc := ⟨.hbm, 281, rfl⟩
abbrev main_call0_call0_v31 : Ref sig .tc := ⟨.hbm, 282, rfl⟩
abbrev main_call0_call0_v32 : Ref sig .tc := ⟨.hbm, 283, rfl⟩
abbrev main_call0_v0 : Ref sig .tc := ⟨.hbm, 284, rfl⟩
abbrev main_call0_v1 : Ref sig .tc := ⟨.hbm, 285, rfl⟩
abbrev main_call0_v2 : Ref sig .tc := ⟨.hbm, 286, rfl⟩
abbrev main_call0_v3 : Ref sig .tc := ⟨.hbm, 287, rfl⟩
abbrev main_v7 : Ref sig .tc := ⟨.hbm, 288, rfl⟩
abbrev main_v8 : Ref sig .tc := ⟨.hbm, 289, rfl⟩
abbrev main_v9 : Ref sig .tc := ⟨.hbm, 290, rfl⟩
abbrev main_v10 : Ref sig .tc := ⟨.hbm, 291, rfl⟩
abbrev main_v11 : Ref sig .tc := ⟨.hbm, 292, rfl⟩
abbrev main_v12 : Ref sig .tc := ⟨.hbm, 293, rfl⟩
abbrev main_v13 : Ref sig .tc := ⟨.hbm, 294, rfl⟩
abbrev main_v14_0 : Ref sig .tc := ⟨.hbm, 295, rfl⟩
abbrev main_v14_1 : Ref sig .tc := ⟨.hbm, 296, rfl⟩
abbrev main_v14_2 : Ref sig .tc := ⟨.hbm, 297, rfl⟩
abbrev main_v15 : Ref sig .tc := ⟨.hbm, 298, rfl⟩
abbrev main_v16 : Ref sig .tc := ⟨.hbm, 299, rfl⟩
abbrev main_v17 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S480x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S480x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S480x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log_floor" => some ((Real.log (332307 / 332306998946228968225951765070086144) : ℝ) : EReal)
  | _ => none
-- ==== ReferenceIdeal.lean ====
abbrev S16384x480 : Shape := ⟨2, ![16384, 480]⟩
abbrev S16384x1000 : Shape := ⟨2, ![16384, 1000]⟩
abbrev S16384 : Shape := ⟨1, ![16384]⟩
abbrev S480x128 : Shape := ⟨2, ![480, 128]⟩
abbrev S128 : Shape := ⟨1, ![128]⟩
abbrev S128x1000 : Shape := ⟨2, ![128, 1000]⟩
abbrev S1000 : Shape := ⟨1, ![1000]⟩
abbrev S128x1 : Shape := ⟨2, ![128, 1]⟩
abbrev S1 : Shape := ⟨1, ![1]⟩
abbrev S16384x128 : Shape := ⟨2, ![16384, 128]⟩
abbrev S1x128 : Shape := ⟨2, ![1, 128]⟩
abbrev S_ : Shape := ⟨0, ![]⟩
abbrev S1x1000 : Shape := ⟨2, ![1, 1000]⟩
abbrev S16384x1 : Shape := ⟨2, ![16384, 1]⟩
abbrev S16384x4 : Shape := ⟨2, ![16384, 4]⟩
abbrev S16384x4x1 : Shape := ⟨3, ![16384, 4, 1]⟩
abbrev S16384x4x2 : Shape := ⟨3, ![16384, 4, 2]⟩
abbrev S2 : Shape := ⟨1, ![2]⟩
abbrev S1x1 : Shape := ⟨2, ![1, 1]⟩

abbrev nBuf : Space → Nat
  | .hbm => 392
  | .vmem => 0
  | .smem => 0
  | _ => 0

abbrev hbmTy0_0 (i : Nat) : BufTy := match i % 128 with
  | 0 => ⟨S16384x480, .f32⟩
  | 1 => ⟨S16384x480, .f32⟩
  | 2 => ⟨S16384x1000, .f32⟩
  | 3 => ⟨S16384, .i32⟩
  | 4 => ⟨S480x128, .f32⟩
  | 5 => ⟨S128, .f32⟩
  | 6 => ⟨S128x1000, .f32⟩
  | 7 => ⟨S1000, .f32⟩
  | 8 => ⟨S480x128, .f32⟩
  | 9 => ⟨S128, .f32⟩
  | 10 => ⟨S128x1, .f32⟩
  | 11 => ⟨S1, .f32⟩
  | 12 => ⟨S16384x128, .f32⟩
  | 13 => ⟨S1x128, .f32⟩
  | 14 => ⟨S16384x128, .f32⟩
  | 15 => ⟨S16384x128, .f32⟩
  | 16 => ⟨S_, .f32⟩
  | 17 => ⟨S16384x128, .f32⟩
  | 18 => ⟨S16384x128, .f32⟩
  | 19 => ⟨S16384x1000, .f32⟩
  | 20 => ⟨S1x1000, .f32⟩
  | 21 => ⟨S16384x1000, .f32⟩
  | 22 => ⟨S16384x1000, .f32⟩
  | 23 => ⟨S_, .f32⟩
  | 24 => ⟨S16384, .f32⟩
  | 25 => ⟨S_, .f32⟩
  | 26 => ⟨S16384, .f32⟩
  | 27 => ⟨S16384, .f32⟩
  | 28 => ⟨S16384x1, .f32⟩
  | 29 => ⟨S16384x1000, .f32⟩
  | 30 => ⟨S16384x1000, .f32⟩
  | 31 => ⟨S16384x1000, .f32⟩
  | 32 => ⟨S_, .f32⟩
  | 33 => ⟨S16384, .f32⟩
  | 34 => ⟨S16384x1, .f32⟩
  | 35 => ⟨S16384x1, .f32⟩
  | 36 => ⟨S16384x1000, .f32⟩
  | 37 => ⟨S16384x1000, .f32⟩
  | 38 => ⟨S16384x1000, .f32⟩
  | 39 => ⟨S16384x4, .f32⟩
  | 40 => ⟨S16384x4, .i32⟩
  | 41 => ⟨S_, .f32⟩
  | 42 => ⟨S16384x1000, .f32⟩
  | 43 => ⟨S16384, .i32⟩
  | 44 => ⟨S16384x1, .i32⟩
  | 45 => ⟨S_, .i32⟩
  | 46 => ⟨S16384x1, .i32⟩
  | 47 => ⟨S16384x1, .i1⟩
  | 48 => ⟨S_, .i32⟩
  | 49 => ⟨S16384x1, .i32⟩
  | 50 => ⟨S16384x1, .i32⟩
  | 51 => ⟨S16384x1, .i32⟩
  | 52 => ⟨S_, .i32⟩
  | 53 => ⟨S16384x4, .i32⟩
  | 54 => ⟨S16384x4, .i1⟩
  | 55 => ⟨S_, .i32⟩
  | 56 => ⟨S16384x4, .i32⟩
  | 57 => ⟨S16384x4, .i32⟩
  | 58 => ⟨S16384x4, .i32⟩
  | 59 => ⟨S16384x4, .i32⟩
  | 60 => ⟨S16384x4x1, .i32⟩
  | 61 => ⟨S16384x4x1, .i32⟩
  | 62 => ⟨S16384x4x2, .i32⟩
  | 63 => ⟨S_, .f32⟩
  | 64 => ⟨S16384x4, .f32⟩
  | 65 => ⟨S16384x1000, .f32⟩
  | 66 => ⟨S16384x1000, .f32⟩
  | 67 => ⟨S_, .f32⟩
  | 68 => ⟨S16384x1000, .f32⟩
  | 69 => ⟨S16384x1000, .i1⟩
  | 70 => ⟨S_, .i1⟩
  | 71 => ⟨S16384, .i1⟩
  | 72 => ⟨S16384x1, .i1⟩
  | 73 => ⟨S16384x1000, .i1⟩
  | 74 => ⟨S16384x1000, .f32⟩
  | 75 => ⟨S16384x1000, .i32⟩
  | 76 => ⟨S_, .f32⟩
  | 77 => ⟨S_, .i32⟩
  | 78 => ⟨S16384, .f32⟩
  | 79 => ⟨S16384, .i32⟩
  | 80 => ⟨S_, .f32⟩
  | 81 => ⟨S16384x1000, .f32⟩
  | 82 => ⟨S16384x1000, .i1⟩
  | 83 => ⟨S_, .f32⟩
  | 84 => ⟨S16384x1000, .f32⟩
  | 85 => ⟨S16384x1000, .f32⟩
  | 86 => ⟨S16384x1000, .f32⟩
  | 87 => ⟨S_, .f32⟩
  | 88 => ⟨S_, .f32⟩
  | 89 => ⟨S16384x1000, .f32⟩
  | 90 => ⟨S16384x1000, .f32⟩
  | 91 => ⟨S_, .i32⟩
  | 92 => ⟨S_, .i32⟩
  | 93 => ⟨S_, .i32⟩
  | 94 => ⟨S_, .i32⟩
  | 95 => ⟨S1, .i32⟩
  | 96 => ⟨S_, .i32⟩
  | 97 => ⟨S_, .i32⟩
  | 98 => ⟨S_, .i32⟩
  | 99 => ⟨S1, .i32⟩
  | 100 => ⟨S2, .i32⟩
  | 101 => ⟨S_, .f32⟩
  | 102 => ⟨S_, .f32⟩
  | 103 => ⟨S_, .f32⟩
  | 104 => ⟨S1x1, .f32⟩
  | 105 => ⟨S1x1, .f32⟩
  | 106 => ⟨S1, .i32⟩
  | 107 => ⟨S_, .i32⟩
  | 108 => ⟨S1, .i32⟩
  | 109 => ⟨S_, .i32⟩
  | 110 => ⟨S16384x1000, .i64⟩
  | 111 => ⟨S16384x1000, .i64⟩
  | 112 => ⟨S_, .i64⟩
  | 113 => ⟨S16384x1000, .i64⟩
  | 114 => ⟨S16384x1000, .i64⟩
  | 115 => ⟨S_, .i64⟩
  | 116 => ⟨S16384x1000, .i64⟩
  | 117 => ⟨S16384x1000, .i64⟩
  | 118 => ⟨S16384x1000, .i64⟩
  | 119 => ⟨S_, .i64⟩
  | 120 => ⟨S16384x1000, .i64⟩
  | 121 => ⟨S16384x1000, .i64⟩
  | 122 => ⟨S16384x1000, .i32⟩
  | 123 => ⟨S16384x1000, .i32⟩
  | 124 => ⟨S_, .i32⟩
  | 125 => ⟨S_, .i32⟩
  | 126 => ⟨S_, .i32⟩
  | 127 => ⟨S16384x1000, .i32⟩
  | _ => ⟨S16384x480, .f32⟩

abbrev hbmTy0_1 (i : Nat) : BufTy := match i % 128 with
  | 0 => ⟨S16384x1000, .i32⟩
  | 1 => ⟨S16384x1000, .i32⟩
  | 2 => ⟨S16384x1000, .i32⟩
  | 3 => ⟨S16384x1000, .i32⟩
  | 4 => ⟨S_, .i32⟩
  | 5 => ⟨S16384x1000, .i32⟩
  | 6 => ⟨S16384x1000, .i32⟩
  | 7 => ⟨S_, .i32⟩
  | 8 => ⟨S16384x1000, .i32⟩
  | 9 => ⟨S16384x1000, .i32⟩
  | 10 => ⟨S16384x1000, .i32⟩
  | 11 => ⟨S16384x1000, .i32⟩
  | 12 => ⟨S16384x1000, .i32⟩
  | 13 => ⟨S_, .i32⟩
  | 14 => ⟨S16384x1000, .i32⟩
  | 15 => ⟨S16384x1000, .i32⟩
  | 16 => ⟨S_, .i32⟩
  | 17 => ⟨S16384x1000, .i32⟩
  | 18 => ⟨S16384x1000, .i32⟩
  | 19 => ⟨S16384x1000, .i32⟩
  | 20 => ⟨S16384x1000, .i32⟩
  | 21 => ⟨S16384x1000, .i32⟩
  | 22 => ⟨S_, .i32⟩
  | 23 => ⟨S16384x1000, .i32⟩
  | 24 => ⟨S16384x1000, .i32⟩
  | 25 => ⟨S_, .i32⟩
  | 26 => ⟨S16384x1000, .i32⟩
  | 27 => ⟨S16384x1000, .i32⟩
  | 28 => ⟨S16384x1000, .i32⟩
  | 29 => ⟨S16384x1000, .i32⟩
  | 30 => ⟨S16384x1000, .i32⟩
  | 31 => ⟨S_, .i32⟩
  | 32 => ⟨S16384x1000, .i32⟩
  | 33 => ⟨S16384x1000, .i32⟩
  | 34 => ⟨S_, .i32⟩
  | 35 => ⟨S16384x1000, .i32⟩
  | 36 => ⟨S16384x1000, .i32⟩
  | 37 => ⟨S16384x1000, .i32⟩
  | 38 => ⟨S16384x1000, .i32⟩
  | 39 => ⟨S16384x1000, .i32⟩
  | 40 => ⟨S16384x1000, .i32⟩
  | 41 => ⟨S16384x1000, .i32⟩
  | 42 => ⟨S16384x1000, .i32⟩
  | 43 => ⟨S_, .i32⟩
  | 44 => ⟨S16384x1000, .i32⟩
  | 45 => ⟨S16384x1000, .i32⟩
  | 46 => ⟨S16384x1000, .i32⟩
  | 47 => ⟨S_, .i32⟩
  | 48 => ⟨S16384x1000, .i32⟩
  | 49 => ⟨S16384x1000, .i32⟩
  | 50 => ⟨S_, .i32⟩
  | 51 => ⟨S16384x1000, .i32⟩
  | 52 => ⟨S16384x1000, .i32⟩
  | 53 => ⟨S16384x1000, .i32⟩
  | 54 => ⟨S16384x1000, .i32⟩
  | 55 => ⟨S16384x1000, .i32⟩
  | 56 => ⟨S_, .i32⟩
  | 57 => ⟨S16384x1000, .i32⟩
  | 58 => ⟨S16384x1000, .i32⟩
  | 59 => ⟨S_, .i32⟩
  | 60 => ⟨S16384x1000, .i32⟩
  | 61 => ⟨S16384x1000, .i32⟩
  | 62 => ⟨S16384x1000, .i32⟩
  | 63 => ⟨S16384x1000, .i32⟩
  | 64 => ⟨S16384x1000, .i32⟩
  | 65 => ⟨S_, .i32⟩
  | 66 => ⟨S16384x1000, .i32⟩
  | 67 => ⟨S16384x1000, .i32⟩
  | 68 => ⟨S_, .i32⟩
  | 69 => ⟨S16384x1000, .i32⟩
  | 70 => ⟨S16384x1000, .i32⟩
  | 71 => ⟨S16384x1000, .i32⟩
  | 72 => ⟨S16384x1000, .i32⟩
  | 73 => ⟨S16384x1000, .i32⟩
  | 74 => ⟨S_, .i32⟩
  | 75 => ⟨S16384x1000, .i32⟩
  | 76 => ⟨S16384x1000, .i32⟩
  | 77 => ⟨S_, .i32⟩
  | 78 => ⟨S16384x1000, .i32⟩
  | 79 => ⟨S16384x1000, .i32⟩
  | 80 => ⟨S16384x1000, .i32⟩
  | 81 => ⟨S16384x1000, .i32⟩
  | 82 => ⟨S16384x1000, .i32⟩
  | 83 => ⟨S16384x1000, .i32⟩
  | 84 => ⟨S16384x1000, .i32⟩
  | 85 => ⟨S16384x1000, .i32⟩
  | 86 => ⟨S_, .i32⟩
  | 87 => ⟨S16384x1000, .i32⟩
  | 88 => ⟨S16384x1000, .i32⟩
  | 89 => ⟨S16384x1000, .i32⟩
  | 90 => ⟨S_, .i32⟩
  | 91 => ⟨S16384x1000, .i32⟩
  | 92 => ⟨S16384x1000, .i32⟩
  | 93 => ⟨S_, .i32⟩
  | 94 => ⟨S16384x1000, .i32⟩
  | 95 => ⟨S16384x1000, .i32⟩
  | 96 => ⟨S16384x1000, .i32⟩
  | 97 => ⟨S16384x1000, .i32⟩
  | 98 => ⟨S16384x1000, .i32⟩
  | 99 => ⟨S_, .i32⟩
  | 100 => ⟨S16384x1000, .i32⟩
  | 101 => ⟨S16384x1000, .i32⟩
  | 102 => ⟨S_, .i32⟩
  | 103 => ⟨S16384x1000, .i32⟩
  | 104 => ⟨S16384x1000, .i32⟩
  | 105 => ⟨S16384x1000, .i32⟩
  | 106 => ⟨S16384x1000, .i32⟩
  | 107 => ⟨S16384x1000, .i32⟩
  | 108 => ⟨S_, .i32⟩
  | 109 => ⟨S16384x1000, .i32⟩
  | 110 => ⟨S16384x1000, .i32⟩
  | 111 => ⟨S_, .i32⟩
  | 112 => ⟨S16384x1000, .i32⟩
  | 113 => ⟨S16384x1000, .i32⟩
  | 114 => ⟨S16384x1000, .i32⟩
  | 115 => ⟨S16384x1000, .i32⟩
  | 116 => ⟨S16384x1000, .i32⟩
  | 117 => ⟨S_, .i32⟩
  | 118 => ⟨S16384x1000, .i32⟩
  | 119 => ⟨S16384x1000, .i32⟩
  | 120 => ⟨S_, .i32⟩
  | 121 => ⟨S16384x1000, .i32⟩
  | 122 => ⟨S16384x1000, .i32⟩
  | 123 => ⟨S16384x1000, .i32⟩
  | 124 => ⟨S16384x1000, .i32⟩
  | 125 => ⟨S16384x1000, .i32⟩
  | 126 => ⟨S16384x1000, .i32⟩
  | 127 => ⟨S16384x1000, .i32⟩
  | _ => ⟨S16384x480, .f32⟩

abbrev hbmTy0_2 (i : Nat) : BufTy := match i % 128 with
  | 0 => ⟨S16384x1000, .i32⟩
  | 1 => ⟨S_, .i32⟩
  | 2 => ⟨S16384x1000, .i32⟩
  | 3 => ⟨S16384x1000, .i32⟩
  | 4 => ⟨S16384x1000, .i32⟩
  | 5 => ⟨S_, .i32⟩
  | 6 => ⟨S16384x1000, .i32⟩
  | 7 => ⟨S16384x1000, .i32⟩
  | 8 => ⟨S_, .i32⟩
  | 9 => ⟨S16384x1000, .i32⟩
  | 10 => ⟨S16384x1000, .i32⟩
  | 11 => ⟨S16384x1000, .i32⟩
  | 12 => ⟨S16384x1000, .i32⟩
  | 13 => ⟨S16384x1000, .i32⟩
  | 14 => ⟨S_, .i32⟩
  | 15 => ⟨S16384x1000, .i32⟩
  | 16 => ⟨S16384x1000, .i32⟩
  | 17 => ⟨S_, .i32⟩
  | 18 => ⟨S16384x1000, .i32⟩
  | 19 => ⟨S16384x1000, .i32⟩
  | 20 => ⟨S16384x1000, .i32⟩
  | 21 => ⟨S16384x1000, .i32⟩
  | 22 => ⟨S16384x1000, .i32⟩
  | 23 => ⟨S_, .i32⟩
  | 24 => ⟨S16384x1000, .i32⟩
  | 25 => ⟨S16384x1000, .i32⟩
  | 26 => ⟨S_, .i32⟩
  | 27 => ⟨S16384x1000, .i32⟩
  | 28 => ⟨S16384x1000, .i32⟩
  | 29 => ⟨S16384x1000, .i32⟩
  | 30 => ⟨S16384x1000, .i32⟩
  | 31 => ⟨S16384x1000, .i32⟩
  | 32 => ⟨S_, .i32⟩
  | 33 => ⟨S16384x1000, .i32⟩
  | 34 => ⟨S16384x1000, .i32⟩
  | 35 => ⟨S_, .i32⟩
  | 36 => ⟨S16384x1000, .i32⟩
  | 37 => ⟨S16384x1000, .i32⟩
  | 38 => ⟨S16384x1000, .i32⟩
  | 39 => ⟨S16384x1000, .i32⟩
  | 40 => ⟨S16384x1000, .i32⟩
  | 41 => ⟨S16384x1000, .i32⟩
  | 42 => ⟨S16384x1000, .i32⟩
  | 43 => ⟨S16384x1000, .i32⟩
  | 44 => ⟨S_, .i32⟩
  | 45 => ⟨S16384x1000, .i32⟩
  | 46 => ⟨S16384x1000, .i32⟩
  | 47 => ⟨S16384x1000, .i32⟩
  | 48 => ⟨S_, .i32⟩
  | 49 => ⟨S16384x1000, .i32⟩
  | 50 => ⟨S16384x1000, .i32⟩
  | 51 => ⟨S_, .i32⟩
  | 52 => ⟨S16384x1000, .i32⟩
  | 53 => ⟨S16384x1000, .i32⟩
  | 54 => ⟨S16384x1000, .i32⟩
  | 55 => ⟨S16384x1000, .i32⟩
  | 56 => ⟨S16384x1000, .i32⟩
  | 57 => ⟨S_, .i32⟩
  | 58 => ⟨S16384x1000, .i32⟩
  | 59 => ⟨S16384x1000, .i32⟩
  | 60 => ⟨S_, .i32⟩
  | 61 => ⟨S16384x1000, .i32⟩
  | 62 => ⟨S16384x1000, .i32⟩
  | 63 => ⟨S16384x1000, .i32⟩
  | 64 => ⟨S16384x1000, .i32⟩
  | 65 => ⟨S16384x1000, .i32⟩
  | 66 => ⟨S_, .i32⟩
  | 67 => ⟨S16384x1000, .i32⟩
  | 68 => ⟨S16384x1000, .i32⟩
  | 69 => ⟨S_, .i32⟩
  | 70 => ⟨S16384x1000, .i32⟩
  | 71 => ⟨S16384x1000, .i32⟩
  | 72 => ⟨S16384x1000, .i32⟩
  | 73 => ⟨S16384x1000, .i32⟩
  | 74 => ⟨S16384x1000, .i32⟩
  | 75 => ⟨S_, .i32⟩
  | 76 => ⟨S16384x1000, .i32⟩
  | 77 => ⟨S16384x1000, .i32⟩
  | 78 => ⟨S_, .i32⟩
  | 79 => ⟨S16384x1000, .i32⟩
  | 80 => ⟨S16384x1000, .i32⟩
  | 81 => ⟨S16384x1000, .i32⟩
  | 82 => ⟨S16384x1000, .i32⟩
  | 83 => ⟨S16384x1000, .i32⟩
  | 84 => ⟨S16384x1000, .i32⟩
  | 85 => ⟨S16384x1000, .i32⟩
  | 86 => ⟨S16384x1000, .i32⟩
  | 87 => ⟨S_, .i32⟩
  | 88 => ⟨S16384x1000, .i32⟩
  | 89 => ⟨S16384x1000, .i32⟩
  | 90 => ⟨S16384x1000, .i32⟩
  | 91 => ⟨S_, .i32⟩
  | 92 => ⟨S16384x1000, .i32⟩
  | 93 => ⟨S16384x1000, .i32⟩
  | 94 => ⟨S_, .i32⟩
  | 95 => ⟨S16384x1000, .i32⟩
  | 96 => ⟨S16384x1000, .i32⟩
  | 97 => ⟨S16384x1000, .f32⟩
  | 98 => ⟨S_, .f32⟩
  | 99 => ⟨S16384x1000, .f32⟩
  | 100 => ⟨S16384x1000, .f32⟩
  | 101 => ⟨S1x1, .f32⟩
  | 102 => ⟨S16384x1000, .f32⟩
  | 103 => ⟨S16384x1000, .f32⟩
  | 104 => ⟨S16384x1000, .f32⟩
  | 105 => ⟨S16384x1000, .f32⟩
  | 106 => ⟨S16384x1000, .f32⟩
  | 107 => ⟨S16384x1000, .f32⟩
  | 108 => ⟨S16384x1000, .f32⟩
  | 109 => ⟨S16384x1000, .f32⟩
  | 110 => ⟨S16384x1000, .f32⟩
  | 111 => ⟨S16384x1000, .f32⟩
  | 112 => ⟨S16384x1000, .f32⟩
  | 113 => ⟨S16384x1000, .i32⟩
  | 114 => ⟨S_, .f32⟩
  | 115 => ⟨S_, .i32⟩
  | 116 => ⟨S16384, .f32⟩
  | 117 => ⟨S16384, .i32⟩
  | 118 => ⟨S16384, .i32⟩
  | 119 => ⟨S_, .i32⟩
  | 120 => ⟨S16384, .i32⟩
  | 121 => ⟨S16384, .i32⟩
  | 122 => ⟨S16384, .i32⟩
  | 123 => ⟨S16384, .i32⟩
  | 124 => ⟨S16384x128, .f32⟩
  | 125 => ⟨S1x128, .f32⟩
  | 126 => ⟨S16384x128, .f32⟩
  | 127 => ⟨S16384x128, .f32⟩
  | _ => ⟨S16384x480, .f32⟩

abbrev hbmTy0_3 (i : Nat) : BufTy := match i % 128 with
  | 0 => ⟨S_, .f32⟩
  | 1 => ⟨S16384x128, .f32⟩
  | 2 => ⟨S16384x128, .f32⟩
  | 3 => ⟨S16384x1, .f32⟩
  | 4 => ⟨S1x1, .f32⟩
  | 5 => ⟨S16384x1, .f32⟩
  | 6 => ⟨S16384x1, .f32⟩
  | 7 => ⟨S16384, .f32⟩
  | _ => ⟨S16384x480, .f32⟩

abbrev hbmTy (i : Nat) : BufTy := match i / 128 with
  | 0 => hbmTy0_0 i
  | 1 => hbmTy0_1 i
  | 2 => hbmTy0_2 i
  | 3 => hbmTy0_3 i
  | _ => ⟨S16384x480, .f32⟩

abbrev bufTy : (tb : Table) → Fin (tcTables nBuf tb) → BufTy
  | .hbm, ⟨i, _⟩ => hbmTy i
  | _, _ => ⟨S16384x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v9 : Ref sig .tc := ⟨.hbm, 37, rfl⟩
abbrev main_v10 : Ref sig .tc := ⟨.hbm, 38, rfl⟩
abbrev main_values : Ref sig .tc := ⟨.hbm, 39, rfl⟩
abbrev main_indices : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c : Ref sig .tc := ⟨.hbm, 45, rfl⟩
abbrev main_v14 : Ref sig .tc := ⟨.hbm, 46, rfl⟩
abbrev main_v15 : Ref sig .tc := ⟨.hbm, 47, rfl⟩
abbrev main_c_0 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_1 : Ref sig .tc := ⟨.hbm, 52, rfl⟩
abbrev main_v19 : Ref sig .tc := ⟨.hbm, 53, rfl⟩
abbrev main_v20 : Ref sig .tc := ⟨.hbm, 54, rfl⟩
abbrev main_c_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_3 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_c_5 : Ref sig .tc := ⟨.hbm, 70, rfl⟩
abbrev main_v33 : Ref sig .tc := ⟨.hbm, 71, rfl⟩
abbrev main_v34 : Ref sig .tc := ⟨.hbm, 72, rfl⟩
abbrev main_call2_v0 : Ref sig .tc := ⟨.hbm, 73, rfl⟩
abbrev main_v35 : Ref sig .tc := ⟨.hbm, 74, rfl⟩
abbrev main_call3_v0 : Ref sig .tc := ⟨.hbm, 75, rfl⟩
abbrev main_call3_cst : Ref sig .tc := ⟨.hbm, 76, rfl⟩
abbrev main_call3_c : Ref sig .tc := ⟨.hbm, 77, rfl⟩
abbrev main_call3_v1_0 : Ref sig .tc := ⟨.hbm, 78, rfl⟩
abbrev main_v36 : Ref sig .tc := ⟨.hbm, 79, rfl⟩
abbrev main_cst_6 : Ref sig .tc := ⟨.hbm, 80, rfl⟩
abbrev main_v37 : Ref sig .tc := ⟨.hbm, 81, rfl⟩
abbrev main_v38 : Ref sig .tc := ⟨.hbm, 82, rfl⟩
abbrev main_cst_7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_8 : Ref sig .tc := ⟨.hbm, 87, rfl⟩
abbrev main_call4_v0 : Ref sig .tc := ⟨.hbm, 88, rfl⟩
abbrev main_call4_v1 : Ref sig .tc := ⟨.hbm, 89, rfl⟩
abbrev main_v42 : Ref sig .tc := ⟨.hbm, 90, rfl⟩
abbrev main_c_9 : Ref sig .tc := ⟨.hbm, 91, rfl⟩
abbrev main_c_10 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_c_11 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_call5_cst : Ref sig .tc := ⟨.hbm, 101, rfl⟩
abbrev main_call5_cst_0 : Ref sig .tc := ⟨.hbm, 102, rfl⟩
abbrev main_call5_call0_v0 : Ref sig .tc := ⟨.hbm, 103, rfl⟩
abbrev main_call5_call0_v1 : Ref sig .tc := ⟨.hbm, 104, rfl⟩
abbrev main_call5_call0_v2 : Ref sig .tc := ⟨.hbm, 105, rfl⟩
abbrev main_call5_call0_v3 : Ref sig .tc := ⟨.hbm, 106, rfl⟩
abbrev main_call5_call0_v4 : Ref sig .tc := ⟨.hbm, 107, rfl⟩
abbrev main_call5_call0_v5 : Ref sig .tc := ⟨.hbm, 108, rfl⟩
abbrev main_call5_call0_v6 : Ref sig .tc := ⟨.hbm, 109, rfl⟩
abbrev main_call5_call0_v7 : Ref sig .tc := ⟨.hbm, 110, rfl⟩
abbrev main_call5_call0_v8 : Ref sig .tc := ⟨.hbm, 111, rfl⟩
abbrev main_call5_call0_c : Ref sig .tc := ⟨.hbm, 112, rfl⟩
abbrev main_call5_call0_v9 : Ref sig .tc := ⟨.hbm, 113, rfl⟩
abbrev main_call5_call0_v10 : Ref sig .tc := ⟨.hbm, 114, rfl⟩
abbrev main_call5_call0_c_0 : Ref sig .tc := ⟨.hbm, 115, rfl⟩
abbrev main_call5_call0_v11 : Ref sig .tc := ⟨.hbm, 116, rfl⟩
abbrev main_call5_call0_v12 : Ref sig .tc := ⟨.hbm, 117, rfl⟩
abbrev main_call5_call0_v13 : Ref sig .tc := ⟨.hbm, 118, rfl⟩
abbrev main_call5_call0_c_1 : Ref sig .tc := ⟨.hbm, 119, rfl⟩
abbrev main_call5_call0_v14 : Ref sig .tc := ⟨.hbm, 120, rfl⟩
abbrev main_call5_call0_v15 : Ref sig .tc := ⟨.hbm, 121, rfl⟩
abbrev main_call5_call0_v16 : Ref sig .tc := ⟨.hbm, 122, rfl⟩
abbrev main_call5_call0_v17 : Ref sig .tc := ⟨.hbm, 123, rfl⟩
abbrev main_call5_call0_call0_v0 : Ref sig .tc := ⟨.hbm, 124, rfl⟩
abbrev main_call5_call0_call0_c : Ref sig .tc := ⟨.hbm, 125, rfl⟩
abbrev main_call5_call0_call0_v1 : Ref sig .tc := ⟨.hbm, 126, rfl⟩
abbrev main_call5_call0_call0_v2 : Ref sig .tc := ⟨.hbm, 127, rfl⟩
abbrev main_call5_call0_call0_v3 : Ref sig .tc := ⟨.hbm, 128, rfl⟩
abbrev main_call5_call0_call0_v4 : Ref sig .tc := ⟨.hbm, 129, rfl⟩
abbrev main_call5_call0_call0_v5 : Ref sig .tc := ⟨.hbm, 130, rfl⟩
abbrev main_call5_call0_call0_v6 : Ref sig .tc := ⟨.hbm, 131, rfl⟩
abbrev main_call5_call0_call0_c_0 : Ref sig .tc := ⟨.hbm, 132, rfl⟩
abbrev main_call5_call0_call0_v7 : Ref sig .tc := ⟨.hbm, 133, rfl⟩
abbrev main_call5_call0_call0_v8 : Ref sig .tc := ⟨.hbm, 134, rfl⟩
abbrev main_call5_call0_call0_c_1 : Ref sig .tc := ⟨.hbm, 135, rfl⟩
abbrev main_call5_call0_call0_v9 : Ref sig .tc := ⟨.hbm, 136, rfl⟩
abbrev main_call5_call0_call0_v10 : Ref sig .tc := ⟨.hbm, 137, rfl⟩
abbrev main_call5_call0_call0_v11 : Ref sig .tc := ⟨.hbm, 138, rfl⟩
abbrev main_call5_call0_call0_v12 : Ref sig .tc := ⟨.hbm, 139, rfl⟩
abbrev main_call5_call0_call0_v13 : Ref sig .tc := ⟨.hbm, 140, rfl⟩
abbrev main_call5_call0_call0_c_2 : Ref sig .tc := ⟨.hbm, 141, rfl⟩
abbrev main_call5_call0_call0_v14 : Ref sig .tc := ⟨.hbm, 142, rfl⟩
abbrev main_call5_call0_call0_v15 : Ref sig .tc := ⟨.hbm, 143, rfl⟩
abbrev main_call5_call0_call0_c_3 : Ref sig .tc := ⟨.hbm, 144, rfl⟩
abbrev main_call5_call0_call0_v16 : Ref sig .tc := ⟨.hbm, 145, rfl⟩
abbrev main_call5_call0_call0_v17 : Ref sig .tc := ⟨.hbm, 146, rfl⟩
abbrev main_call5_call0_call0_v18 : Ref sig .tc := ⟨.hbm, 147, rfl⟩
abbrev main_call5_call0_call0_v19 : Ref sig .tc := ⟨.hbm, 148, rfl⟩
abbrev main_call5_call0_call0_v20 : Ref sig .tc := ⟨.hbm, 149, rfl⟩
abbrev main_call5_call0_call0_c_4 : Ref sig .tc := ⟨.hbm, 150, rfl⟩
abbrev main_call5_call0_call0_v21 : Ref sig .tc := ⟨.hbm, 151, rfl⟩
abbrev main_call5_call0_call0_v22 : Ref sig .tc := ⟨.hbm, 152, rfl⟩
abbrev main_call5_call0_call0_c_5 : Ref sig .tc := ⟨.hbm, 153, rfl⟩
abbrev main_call5_call0_call0_v23 : Ref sig .tc := ⟨.hbm, 154, rfl⟩
abbrev main_call5_call0_call0_v24 : Ref sig .tc := ⟨.hbm, 155, rfl⟩
abbrev main_call5_call0_call0_v25 : Ref sig .tc := ⟨.hbm, 156, rfl⟩
abbrev main_call5_call0_call0_v26 : Ref sig .tc := ⟨.hbm, 157, rfl⟩
abbrev main_call5_call0_call0_v27 : Ref sig .tc := ⟨.hbm, 158, rfl⟩
abbrev main_call5_call0_call0_c_6 : Ref sig .tc := ⟨.hbm, 159, rfl⟩
abbrev main_call5_call0_call0_v28 : Ref sig .tc := ⟨.hbm, 160, rfl⟩
abbrev main_call5_call0_call0_v29 : Ref sig .tc := ⟨.hbm, 161, rfl⟩
abbrev main_call5_call0_call0_c_7 : Ref sig .tc := ⟨.hbm, 162, rfl⟩
abbrev main_call5_call0_call0_v30 : Ref sig .tc := ⟨.hbm, 163, rfl⟩
abbrev main_call5_call0_call0_v31 : Ref sig .tc := ⟨.hbm, 164, rfl⟩
abbrev main_call5_call0_call0_v32 : Ref sig .tc := ⟨.hbm, 165, rfl⟩
abbrev main_call5_call0_call0_v33 : Ref sig .tc := ⟨.hbm, 166, rfl⟩
abbrev main_call5_call0_call0_v34 : Ref sig .tc := ⟨.hbm, 167, rfl⟩
abbrev main_call5_call0_call0_v35 : Ref sig .tc := ⟨.hbm, 168, rfl⟩
abbrev main_call5_call0_call0_v36 : Ref sig .tc := ⟨.hbm, 169, rfl⟩
abbrev main_call5_call0_call0_v37 : Ref sig .tc := ⟨.hbm, 170, rfl⟩
abbrev main_call5_call0_call0_c_8 : Ref sig .tc := ⟨.hbm, 171, rfl⟩
abbrev main_call5_call0_call0_v38 : Ref sig .tc := ⟨.hbm, 172, rfl⟩
abbrev main_call5_call0_call0_v39 : Ref sig .tc := ⟨.hbm, 173, rfl⟩
abbrev main_call5_call0_call0_v40 : Ref sig .tc := ⟨.hbm, 174, rfl⟩
abbrev main_call5_call0_call0_c_9 : Ref sig .tc := ⟨.hbm, 175, rfl⟩
abbrev main_call5_call0_call0_v41 : Ref sig .tc := ⟨.hbm, 176, rfl⟩
abbrev main_call5_call0_call0_v42 : Ref sig .tc := ⟨.hbm, 177, rfl⟩
abbrev main_call5_call0_call0_c_10 : Ref sig .tc := ⟨.hbm, 178, rfl⟩
abbrev main_call5_call0_call0_v43 : Ref sig .tc := ⟨.hbm, 179, rfl⟩
abbrev main_call5_call0_call0_v44 : Ref sig .tc := ⟨.hbm, 180, rfl⟩
abbrev main_call5_call0_call0_v45 : Ref sig .tc := ⟨.hbm, 181, rfl⟩
abbrev main_call5_call0_call0_v46 : Ref sig .tc := ⟨.hbm, 182, rfl⟩
abbrev main_call5_call0_call0_v47 : Ref sig .tc := ⟨.hbm, 183, rfl⟩
abbrev main_call5_call0_call0_c_11 : Ref sig .tc := ⟨.hbm, 184, rfl⟩
abbrev main_call5_call0_call0_v48 : Ref sig .tc := ⟨.hbm, 185, rfl⟩
abbrev main_call5_call0_call0_v49 : Ref sig .tc := ⟨.hbm, 186, rfl⟩
abbrev main_call5_call0_call0_c_12 : Ref sig .tc := ⟨.hbm, 187, rfl⟩
abbrev main_call5_call0_call0_v50 : Ref sig .tc := ⟨.hbm, 188, rfl⟩
abbrev main_call5_call0_call0_v51 : Ref sig .tc := ⟨.hbm, 189, rfl⟩
abbrev main_call5_call0_call0_v52 : Ref sig .tc := ⟨.hbm, 190, rfl⟩
abbrev main_call5_call0_call0_v53 : Ref sig .tc := ⟨.hbm, 191, rfl⟩
abbrev main_call5_call0_call0_v54 : Ref sig .tc := ⟨.hbm, 192, rfl⟩
abbrev main_call5_call0_call0_c_13 : Ref sig .tc := ⟨.hbm, 193, rfl⟩
abbrev main_call5_call0_call0_v55 : Ref sig .tc := ⟨.hbm, 194, rfl⟩
abbrev main_call5_call0_call0_v56 : Ref sig .tc := ⟨.hbm, 195, rfl⟩
abbrev main_call5_call0_call0_c_14 : Ref sig .tc := ⟨.hbm, 196, rfl⟩
abbrev main_call5_call0_call0_v57 : Ref sig .tc := ⟨.hbm, 197, rfl⟩
abbrev main_call5_call0_call0_v58 : Ref sig .tc := ⟨.hbm, 198, rfl⟩
abbrev main_call5_call0_call0_v59 : Ref sig .tc := ⟨.hbm, 199, rfl⟩
abbrev main_call5_call0_call0_v60 : Ref sig .tc := ⟨.hbm, 200, rfl⟩
abbrev main_call5_call0_call0_v61 : Ref sig .tc := ⟨.hbm, 201, rfl⟩
abbrev main_call5_call0_call0_c_15 : Ref sig .tc := ⟨.hbm, 202, rfl⟩
abbrev main_call5_call0_call0_v62 : Ref sig .tc := ⟨.hbm, 203, rfl⟩
abbrev main_call5_call0_call0_v63 : Ref sig .tc := ⟨.hbm, 204, rfl⟩
abbrev main_call5_call0_call0_c_16 : Ref sig .tc := ⟨.hbm, 205, rfl⟩
abbrev main_call5_call0_call0_v64 : Ref sig .tc := ⟨.hbm, 206, rfl⟩
abbrev main_call5_call0_call0_v65 : Ref sig .tc := ⟨.hbm, 207, rfl⟩
abbrev main_call5_call0_call0_v66 : Ref sig .tc := ⟨.hbm, 208, rfl⟩
abbrev main_call5_call0_call0_v67 : Ref sig .tc := ⟨.hbm, 209, rfl⟩
abbrev main_call5_call0_call0_v68 : Ref sig .tc := ⟨.hbm, 210, rfl⟩
abbrev main_call5_call0_call0_v69 : Ref sig .tc := ⟨.hbm, 211, rfl⟩
abbrev main_call5_call0_call0_v70 : Ref sig .tc := ⟨.hbm, 212, rfl⟩
abbrev main_call5_call0_call0_v71 : Ref sig .tc := ⟨.hbm, 213, rfl⟩
abbrev main_call5_call0_call0_c_17 : Ref sig .tc := ⟨.hbm, 214, rfl⟩
abbrev main_call5_call0_call0_v72 : Ref sig .tc := ⟨.hbm, 215, rfl⟩
abbrev main_call5_call0_call0_v73 : Ref sig .tc := ⟨.hbm, 216, rfl⟩
abbrev main_call5_call0_call0_v74 : Ref sig .tc := ⟨.hbm, 217, rfl⟩
abbrev main_call5_call0_call0_c_18 : Ref sig .tc := ⟨.hbm, 218, rfl⟩
abbrev main_call5_call0_call0_v75 : Ref sig .tc := ⟨.hbm, 219, rfl⟩
abbrev main_call5_call0_call0_v76 : Ref sig .tc := ⟨.hbm, 220, rfl⟩
abbrev main_call5_call0_call0_c_19 : Ref sig .tc := ⟨.hbm, 221, rfl⟩
abbrev main_call5_call0_call0_v77 : Ref sig .tc := ⟨.hbm, 222, rfl⟩
abbrev main_call5_call0_call0_v78 : Ref sig .tc := ⟨.hbm, 223, rfl⟩
abbrev main_call5_call0_call0_v79 : Ref sig .tc := ⟨.hbm, 224, rfl⟩
abbrev main_call5_call0_call0_v80 : Ref sig .tc := ⟨.hbm, 225, rfl⟩
abbrev main_call5_call0_call0_v81 : Ref sig .tc := ⟨.hbm, 226, rfl⟩
abbrev main_call5_call0_call0_c_20 : Ref sig .tc := ⟨.hbm, 227, rfl⟩
abbrev main_call5_call0_call0_v82 : Ref sig .tc := ⟨.hbm, 228, rfl⟩
abbrev main_call5_call0_call0_v83 : Ref sig .tc := ⟨.hbm, 229, rfl⟩
abbrev main_call5_call0_call0_c_21 : Ref sig .tc := ⟨.hbm, 230, rfl⟩
abbrev main_call5_call0_call0_v84 : Ref sig .tc := ⟨.hbm, 231, rfl⟩
abbrev main_call5_call0_call0_v85 : Ref sig .tc := ⟨.hbm, 232, rfl⟩
abbrev main_call5_call0_call0_v86 : Ref sig .tc := ⟨.hbm, 233, rfl⟩
abbrev main_call5_call0_call0_v87 : Ref sig .tc := ⟨.hbm, 234, rfl⟩
abbrev main_call5_call0_call0_v88 : Ref sig .tc := ⟨.hbm, 235, rfl⟩
abbrev main_call5_call0_call0_c_22 : Ref sig .tc := ⟨.hbm, 236, rfl⟩
abbrev main_call5_call0_call0_v89 : Ref sig .tc := ⟨.hbm, 237, rfl⟩
abbrev main_call5_call0_call0_v90 : Ref sig .tc := ⟨.hbm, 238, rfl⟩
abbrev main_call5_call0_call0_c_23 : Ref sig .tc := ⟨.hbm, 239, rfl⟩
abbrev main_call5_call0_call0_v91 : Ref sig .tc := ⟨.hbm, 240, rfl⟩
abbrev main_call5_call0_call0_v92 : Ref sig .tc := ⟨.hbm, 241, rfl⟩
abbrev main_call5_call0_call0_v93 : Ref sig .tc := ⟨.hbm, 242, rfl⟩
abbrev main_call5_call0_call0_v94 : Ref sig .tc := ⟨.hbm, 243, rfl⟩
abbrev main_call5_call0_call0_v95 : Ref sig .tc := ⟨.hbm, 244, rfl⟩
abbrev main_call5_call0_call0_c_24 : Ref sig .tc := ⟨.hbm, 245, rfl⟩
abbrev main_call5_call0_call0_v96 : Ref sig .tc := ⟨.hbm, 246, rfl⟩
abbrev main_call5_call0_call0_v97 : Ref sig .tc := ⟨.hbm, 247, rfl⟩
abbrev main_call5_call0_call0_c_25 : Ref sig .tc := ⟨.hbm, 248, rfl⟩
abbrev main_call5_call0_call0_v98 : Ref sig .tc := ⟨.hbm, 249, rfl⟩
abbrev main_call5_call0_call0_v99 : Ref sig .tc := ⟨.hbm, 250, rfl⟩
abbrev main_call5_call0_call0_v100 : Ref sig .tc := ⟨.hbm, 251, rfl⟩
abbrev main_call5_call0_call0_v101 : Ref sig .tc := ⟨.hbm, 252, rfl⟩
abbrev main_call5_call0_call0_v102 : Ref sig .tc := ⟨.hbm, 253, rfl⟩
abbrev main_call5_call0_call0_v103 : Ref sig .tc := ⟨.hbm, 254, rfl⟩
abbrev main_call5_call0_call0_v104 : Ref sig .tc := ⟨.hbm, 255, rfl⟩
abbrev main_call5_call0_call0_v105 : Ref sig .tc := ⟨.hbm, 256, rfl⟩
abbrev main_call5_call0_call0_c_26 : Ref sig .tc := ⟨.hbm, 257, rfl⟩
abbrev main_call5_call0_call0_v106 : Ref sig .tc := ⟨.hbm, 258, rfl⟩
abbrev main_call5_call0_call0_v107 : Ref sig .tc := ⟨.hbm, 259, rfl⟩
abbrev main_call5_call0_call0_v108 : Ref sig .tc := ⟨.hbm, 260, rfl⟩
abbrev main_call5_call0_call0_c_27 : Ref sig .tc := ⟨.hbm, 261, rfl⟩
abbrev main_call5_call0_call0_v109 : Ref sig .tc := ⟨.hbm, 262, rfl⟩
abbrev main_call5_call0_call0_v110 : Ref sig .tc := ⟨.hbm, 263, rfl⟩
abbrev main_call5_call0_call0_c_28 : Ref sig .tc := ⟨.hbm, 264, rfl⟩
abbrev main_call5_call0_call0_v111 : Ref sig .tc := ⟨.hbm, 265, rfl⟩
abbrev main_call5_call0_call0_v112 : Ref sig .tc := ⟨.hbm, 266, rfl⟩
abbrev main_call5_call0_call0_v113 : Ref sig .tc := ⟨.hbm, 267, rfl⟩
abbrev main_call5_call0_call0_v114 : Ref sig .tc := ⟨.hbm, 268, rfl⟩
abbrev main_call5_call0_call0_v115 : Ref sig .tc := ⟨.hbm, 269, rfl⟩
abbrev main_call5_call0_call0_c_29 : Ref sig .tc := ⟨.hbm, 270, rfl⟩
abbrev main_call5_call0_call0_v116 : Ref sig .tc := ⟨.hbm, 271, rfl⟩
abbrev main_call5_call0_call0_v117 : Ref sig .tc := ⟨.hbm, 272, rfl⟩
abbrev main_call5_call0_call0_c_30 : Ref sig .tc := ⟨.hbm, 273, rfl⟩
abbrev main_call5_call0_call0_v118 : Ref sig .tc := ⟨.hbm, 274, rfl⟩
abbrev main_call5_call0_call0_v119 : Ref sig .tc := ⟨.hbm, 275, rfl⟩
abbrev main_call5_call0_call0_v120 : Ref sig .tc := ⟨.hbm, 276, rfl⟩
abbrev main_call5_call0_call0_v121 : Ref sig .tc := ⟨.hbm, 277, rfl⟩
abbrev main_call5_call0_call0_v122 : Ref sig .tc := ⟨.hbm, 278, rfl⟩
abbrev main_call5_call0_call0_c_31 : Ref sig .tc := ⟨.hbm, 279, rfl⟩
abbrev main_call5_call0_call0_v123 : Ref sig .tc := ⟨.hbm, 280, rfl⟩
abbrev main_call5_call0_call0_v124 : Ref sig .tc := ⟨.hbm, 281, rfl⟩
abbrev main_call5_call0_call0_c_32 : Ref sig .tc := ⟨.hbm, 282, rfl⟩
abbrev main_call5_call0_call0_v125 : Ref sig .tc := ⟨.hbm, 283, rfl⟩
abbrev main_call5_call0_call0_v126 : Ref sig .tc := ⟨.hbm, 284, rfl⟩
abbrev main_call5_call0_call0_v127 : Ref sig .tc := ⟨.hbm, 285, rfl⟩
abbrev main_call5_call0_call0_v128 : Ref sig .tc := ⟨.hbm, 286, rfl⟩
abbrev main_call5_call0_call0_v129 : Ref sig .tc := ⟨.hbm, 287, rfl⟩
abbrev main_call5_call0_call0_c_33 : Ref sig .tc := ⟨.hbm, 288, rfl⟩
abbrev main_call5_call0_call0_v130 : Ref sig .tc := ⟨.hbm, 289, rfl⟩
abbrev main_call5_call0_call0_v131 : Ref sig .tc := ⟨.hbm, 290, rfl⟩
abbrev main_call5_call0_call0_c_34 : Ref sig .tc := ⟨.hbm, 291, rfl⟩
abbrev main_call5_call0_call0_v132 : Ref sig .tc := ⟨.hbm, 292, rfl⟩
abbrev main_call5_call0_call0_v133 : Ref sig .tc := ⟨.hbm, 293, rfl⟩
abbrev main_call5_call0_call0_v134 : Ref sig .tc := ⟨.hbm, 294, rfl⟩
abbrev main_call5_call0_call0_v135 : Ref sig .tc := ⟨.hbm, 295, rfl⟩
abbrev main_call5_call0_call0_v136 : Ref sig .tc := ⟨.hbm, 296, rfl⟩
abbrev main_call5_call0_call0_v137 : Ref sig .tc := ⟨.hbm, 297, rfl⟩
abbrev main_call5_call0_call0_v138 : Ref sig .tc := ⟨.hbm, 298, rfl⟩
abbrev main_call5_call0_call0_v139 : Ref sig .tc := ⟨.hbm, 299, rfl⟩
abbrev main_call5_call0_call0_c_35 : Ref sig .tc := ⟨.hbm, 300, rfl⟩
abbrev main_call5_call0_call0_v140 : Ref sig .tc := ⟨.hbm, 301, rfl⟩
abbrev main_call5_call0_call0_v141 : Ref sig .tc := ⟨.hbm, 302, rfl⟩
abbrev main_call5_call0_call0_v142 : Ref sig .tc := ⟨.hbm, 303, rfl⟩
abbrev main_call5_call0_call0_c_36 : Ref sig .tc := ⟨.hbm, 304, rfl⟩
abbrev main_call5_call0_call0_v143 : Ref sig .tc := ⟨.hbm, 305, rfl⟩
abbrev main_call5_call0_call0_v144 : Ref sig .tc := ⟨.hbm, 306, rfl⟩
abbrev main_call5_call0_call0_c_37 : Ref sig .tc := ⟨.hbm, 307, rfl⟩
abbrev main_call5_call0_call0_v145 : Ref sig .tc := ⟨.hbm, 308, rfl⟩
abbrev main_call5_call0_call0_v146 : Ref sig .tc := ⟨.hbm, 309, rfl⟩
abbrev main_call5_call0_call0_v147 : Ref sig .tc := ⟨.hbm, 310, rfl⟩
abbrev main_call5_call0_call0_v148 : Ref sig .tc := ⟨.hbm, 311, rfl⟩
abbrev main_call5_call0_call0_v149 : Ref sig .tc := ⟨.hbm, 312, rfl⟩
abbrev main_call5_call0_call0_c_38 : Ref sig .tc := ⟨.hbm, 313, rfl⟩
abbrev main_call5_call0_call0_v150 : Ref sig .tc := ⟨.hbm, 314, rfl⟩
abbrev main_call5_call0_call0_v151 : Ref sig .tc := ⟨.hbm, 315, rfl⟩
abbrev main_call5_call0_call0_c_39 : Ref sig .tc := ⟨.hbm, 316, rfl⟩
abbrev main_call5_call0_call0_v152 : Ref sig .tc := ⟨.hbm, 317, rfl⟩
abbrev main_call5_call0_call0_v153 : Ref sig .tc := ⟨.hbm, 318, rfl⟩
abbrev main_call5_call0_call0_v154 : Ref sig .tc := ⟨.hbm, 319, rfl⟩
abbrev main_call5_call0_call0_v155 : Ref sig .tc := ⟨.hbm, 320, rfl⟩
abbrev main_call5_call0_call0_v156 : Ref sig .tc := ⟨.hbm, 321, rfl⟩
abbrev main_call5_call0_call0_c_40 : Ref sig .tc := ⟨.hbm, 322, rfl⟩
abbrev main_call5_call0_call0_v157 : Ref sig .tc := ⟨.hbm, 323, rfl⟩
abbrev main_call5_call0_call0_v158 : Ref sig .tc := ⟨.hbm, 324, rfl⟩
abbrev main_call5_call0_call0_c_41 : Ref sig .tc := ⟨.hbm, 325, rfl⟩
abbrev main_call5_call0_call0_v159 : Ref sig .tc := ⟨.hbm, 326, rfl⟩
abbrev main_call5_call0_call0_v160 : Ref sig .tc := ⟨.hbm, 327, rfl⟩
abbrev main_call5_call0_call0_v161 : Ref sig .tc := ⟨.hbm, 328, rfl⟩
abbrev main_call5_call0_call0_v162 : Ref sig .tc := ⟨.hbm, 329, rfl⟩
abbrev main_call5_call0_call0_v163 : Ref sig .tc := ⟨.hbm, 330, rfl⟩
abbrev main_call5_call0_call0_c_42 : Ref sig .tc := ⟨.hbm, 331, rfl⟩
abbrev main_call5_call0_call0_v164 : Ref sig .tc := ⟨.hbm, 332, rfl⟩
abbrev main_call5_call0_call0_v165 : Ref sig .tc := ⟨.hbm, 333, rfl⟩
abbrev main_call5_call0_call0_c_43 : Ref sig .tc := ⟨.hbm, 334, rfl⟩
abbrev main_call5_call0_call0_v166 : Ref sig .tc := ⟨.hbm, 335, rfl⟩
abbrev main_call5_call0_call0_v167 : Ref sig .tc := ⟨.hbm, 336, rfl⟩
abbrev main_call5_call0_call0_v168 : Ref sig .tc := ⟨.hbm, 337, rfl⟩
abbrev main_call5_call0_call0_v169 : Ref sig .tc := ⟨.hbm, 338, rfl⟩
abbrev main_call5_call0_call0_v170 : Ref sig .tc := ⟨.hbm, 339, rfl⟩
abbrev main_call5_call0_v18_0 : Ref sig .tc := ⟨.hbm, 340, rfl⟩
abbrev main_call5_call0_call0_v172 : Ref sig .tc := ⟨.hbm, 341, rfl⟩
abbrev main_call5_call0_call0_v173 : Ref sig .tc := ⟨.hbm, 342, rfl⟩
abbrev main_call5_call0_call0_c_44 : Ref sig .tc := ⟨.hbm, 343, rfl⟩
abbrev main_call5_call0_call0_v174 : Ref sig .tc := ⟨.hbm, 344, rfl⟩
abbrev main_call5_call0_v18_1 : Ref sig .tc := ⟨.hbm, 345, rfl⟩
abbrev main_call5_call0_v19 : Ref sig .tc := ⟨.hbm, 346, rfl⟩
abbrev main_call5_call0_c_2 : Ref sig .tc := ⟨.hbm, 347, rfl⟩
abbrev main_call5_call0_v20 : Ref sig .tc := ⟨.hbm, 348, rfl⟩
abbrev main_call5_call0_v21 : Ref sig .tc := ⟨.hbm, 349, rfl⟩
abbrev main_call5_call0_c_3 : Ref sig .tc := ⟨.hbm, 350, rfl⟩
abbrev main_call5_call0_v22 : Ref sig .tc := ⟨.hbm, 351, rfl⟩
abbrev main_call5_call0_v23 : Ref sig .tc := ⟨.hbm, 352, rfl⟩
abbrev main_call5_call0_v24 : Ref sig .tc := ⟨.hbm, 353, rfl⟩
abbrev main_call5_call0_cst : Ref sig .tc := ⟨.hbm, 354, rfl⟩
abbrev main_call5_call0_v25 : Ref sig .tc := ⟨.hbm, 355, rfl⟩
abbrev main_call5_call0_v26 : Ref sig .tc := ⟨.hbm, 356, rfl⟩
abbrev main_call5_call0_v27 : Ref sig .tc := ⟨.hbm, 357, rfl⟩
abbrev main_call5_call0_v28 : Ref sig .tc := ⟨.hbm, 358, rfl⟩
abbrev main_call5_call0_v29 : Ref sig .tc := ⟨.hbm, 359, rfl⟩
abbrev main_call5_call0_v30 : Ref sig .tc := ⟨.hbm, 360, rfl⟩
abbrev main_call5_call0_v31 : Ref sig .tc := ⟨.hbm, 361, rfl⟩
abbrev main_call5_call0_v32 : Ref sig .tc := ⟨.hbm, 362, rfl⟩
abbrev main_call5_v0 : Ref sig .tc := ⟨.hbm, 363, rfl⟩
abbrev main_call5_v1 : Ref sig .tc := ⟨.hbm, 364, rfl⟩
abbrev main_call5_v2 : Ref sig .tc := ⟨.hbm, 365, rfl⟩
abbrev main_call5_v3 : Ref sig .tc := ⟨.hbm, 366, rfl⟩
abbrev main_v50 : Ref sig .tc := ⟨.hbm, 367, rfl⟩
abbrev main_v51 : Ref sig .tc := ⟨.hbm, 368, rfl⟩
abbrev main_call6_v0 : Ref sig .tc := ⟨.hbm, 369, rfl⟩
abbrev main_call6_cst : Ref sig .tc := ⟨.hbm, 370, rfl⟩
abbrev main_call6_c : Ref sig .tc := ⟨.hbm, 371, rfl⟩
abbrev main_call6_v1_0 : Ref sig .tc := ⟨.hbm, 372, rfl⟩
abbrev main_v52 : Ref sig .tc := ⟨.hbm, 373, rfl⟩
abbrev main_v53 : Ref sig .tc := ⟨.hbm, 374, rfl⟩
abbrev main_c_12 : Ref sig .tc := ⟨.hbm, 375, rfl⟩
abbrev main_v54 : Ref sig .tc := ⟨.hbm, 376, rfl⟩
abbrev main_v55 : Ref sig .tc := ⟨.hbm, 377, rfl⟩
abbrev main_v56 : Ref sig .tc := ⟨.hbm, 378, rfl⟩
abbrev main_v57 : Ref sig .tc := ⟨.hbm, 379, rfl⟩
abbrev main_v58 : Ref sig .tc := ⟨.hbm, 380, rfl⟩
abbrev main_v59 : Ref sig .tc := ⟨.hbm, 381, rfl⟩
abbrev main_v60 : Ref sig .tc := ⟨.hbm, 382, rfl⟩
abbrev main_v61 : Ref sig .tc := ⟨.hbm, 383, rfl⟩
abbrev main_call7_cst : Ref sig .tc := ⟨.hbm, 384, rfl⟩
abbrev main_call7_v0 : Ref sig .tc := ⟨.hbm, 385, rfl⟩
abbrev main_v62 : Ref sig .tc := ⟨.hbm, 386, rfl⟩
abbrev main_v63 : Ref sig .tc := ⟨.hbm, 387, rfl⟩
abbrev main_v64 : Ref sig .tc := ⟨.hbm, 388, rfl⟩
abbrev main_v65 : Ref sig .tc := ⟨.hbm, 389, rfl⟩
abbrev main_v66 : Ref sig .tc := ⟨.hbm, 390, rfl⟩
abbrev main_v67 : Ref sig .tc := ⟨.hbm, 391, rfl⟩

abbrev nD : Nat := 1
abbrev τ : Topo := Topo.v7x

variable {F : FTy → Type} [FloatOps F]
-- ==== Proof.Straight.lean ====
/- Straight lines of operations over numbered values. A line is written once, its values numbered inside each of a few
   kinds of array; a table of buffers then turns it into a program's own operations. Two programs that carry the same line
   over two tables of buffers leave equal contents in the buffers of equal number (`runs_agree`): whatever the
   line computes, it is never worked out. -/
module

public import Idealize.ShloMosaic.Lib.StableHlo.Run

@[expose] public section

noncomputable section

namespace Cert.Proof.Straight

open Idealize.ShloMosaic Idealize.ShloMosaic.StableHlo

variable {K : Type} [DecidableEq K] (ty : K → BufTy) (Val : EltTy → Type)

/-- One operation of a line: its values are given by kind and number. -/
inductive Instr where
  | nul (d : K × ℕ) (v : (ty d.1).Contents Val)
  | un (x d : K × ℕ) (f : (ty x.1).Contents Val → (ty d.1).Contents Val)
  | bin (x y d : K × ℕ) (f : (ty x.1).Contents Val → (ty y.1).Contents Val → (ty d.1).Contents Val)
  | rsh (x d : K × ℕ) (he : (ty x.1).elt = (ty d.1).elt) (hn : (ty x.1).shape.ShapeCasts (ty d.1).shape)

variable {ty Val}

/-- The value an operation makes. -/
def Instr.dst : Instr ty Val → K × ℕ
  | .nul d _ => d
  | .un _ d _ => d
  | .bin _ _ d _ => d
  | .rsh _ d _ _ => d

/-- The values it reads. -/
def Instr.srcs : Instr ty Val → List (K × ℕ)
  | .nul _ _ => []
  | .un x _ _ => [x]
  | .bin x y _ _ => [x, y]
  | .rsh x _ _ _ => [x]

variable {τ : Topo} {sig : RefSig}

/-- The operation over a table of buffers. -/
abbrev Instr.op (φ : (i : K × ℕ) → TRef sig (ty i.1)) : Instr ty Val → HloOp τ sig Val
  | .nul d v => TRef.nullary (φ d) v
  | .un x d f => TRef.unary (φ x) (φ d) f
  | .bin x y d f => TRef.binary (φ x) (φ y) (φ d) f
  | .rsh x d he hn => TRef.reshape (φ x) (φ d) he hn

/-- The contents of every value. -/
abbrev Env (ty : K → BufTy) (Val : EltTy → Type) : Type := (i : K × ℕ) → (ty i.1).Contents Val

/-- What an operation makes, of the contents of what it reads. -/
def Instr.val (e : Env ty Val) : (s : Instr ty Val) → (ty s.dst.1).Contents Val
  | .nul _ v => v
  | .un x _ f => f (e x)
  | .bin x y _ f => f (e x) (e y)
  | .rsh x d he hn => fun i => he ▸ shapeCast (ty d.1).shape (e x) hn i

/-- The contents of the values in a table's buffers. -/
abbrev rd (φ : (i : K × ℕ) → TRef sig (ty i.1)) (V : Valuation τ sig Val) : Env ty Val :=
  fun i => (φ i).ofBuf (V (Proc.devRef .tc (φ i).ref))

omit [DecidableEq K] in
/-- A value's contents depend on what is read only. -/
theorem Instr.val_congr (s : Instr ty Val) (e e' : Env ty Val) (h : ∀ i ∈ s.srcs, e i = e' i) : s.val e = s.val e' := by
  cases s with
  | nul d v => rfl
  | un x d f => exact congrArg f (h x (by simp [Instr.srcs]))
  | bin x y d f => exact congrArg₂ f (h x (by simp [Instr.srcs])) (h y (by simp [Instr.srcs]))
  | rsh x d he hn =>
    have hx := h x (by simp [Instr.srcs])
    show (fun i => he ▸ shapeCast (ty d.1).shape (e x) hn i) = fun i => he ▸ shapeCast (ty d.1).shape (e' x) hn i
    rw [hx]

omit [DecidableEq K] in
/-- After the operation its value's buffer holds what it makes. -/
theorem rd_op_dst (φ : (i : K × ℕ) → TRef sig (ty i.1)) (s : Instr ty Val) (V : Valuation τ sig Val) :
    rd φ ((s.op φ).result V) s.dst = s.val (rd φ V) := by
  cases s with
  | nul d v => exact (congrArg (φ d).ofBuf (nullary_result ..)).trans (TRef.ofBuf_toBuf ..)
  | un x d f => exact (congrArg (φ d).ofBuf (unary_result ..)).trans (TRef.ofBuf_toBuf ..)
  | bin x y d f => exact (congrArg (φ d).ofBuf (binary_result ..)).trans (TRef.ofBuf_toBuf ..)
  | rsh x d he hn =>
    refine (congrArg (φ d).ofBuf (reshape_result ..)).trans ?_
    show _ = fun i => he ▸ shapeCast (ty d.1).shape (rd φ V x) hn i
    unfold rd
    generalize φ x = a
    generalize φ d = b
    obtain ⟨a, ha, ha1, ha2⟩ := a
    obtain ⟨b, hb, hb1, hb2⟩ := b
    revert he hn
    generalize ty x.1 = A at *
    generalize ty d.1 = B at *
    subst ha hb
    intro he hn
    rfl

omit [DecidableEq K] in
/-- Every other buffer keeps its contents. -/
theorem rd_op_ne (φ : (i : K × ℕ) → TRef sig (ty i.1)) (s : Instr ty Val) (V : Valuation τ sig Val) (i : K × ℕ)
    (h : (φ i).ref ≠ (φ s.dst).ref) : rd φ ((s.op φ).result V) i = rd φ V i := by
  cases s with
  | nul d v => exact congrArg (φ i).ofBuf (nullary_result_ne (h := h) ..)
  | un x d f => exact congrArg (φ i).ofBuf (unary_result_ne (h := h) ..)
  | bin x y d f => exact congrArg (φ i).ofBuf (binary_result_ne (h := h) ..)
  | rsh x d he hn => exact congrArg (φ i).ofBuf (reshape_result_ne (h := h) ..)

/-- The line reads only what is known (`S`, and what it has made), and makes only values of the table's extent `D`. -/
def wf (D : List (K × ℕ)) : List (K × ℕ) → List (Instr ty Val) → Bool
  | _, [] => true
  | S, s :: l => s.srcs.all (fun i => decide (i ∈ S)) && decide (s.dst ∈ D) && wf D (s.dst :: S) l

/-- The same line over two tables: equal contents of what is known at the start give equal contents of all it makes. -/
theorem runs_agree {τ' : Topo} {sig' : RefSig} (φ : (i : K × ℕ) → TRef sig (ty i.1)) (φ' : (i : K × ℕ) → TRef sig' (ty i.1))
    (D : List (K × ℕ)) (hD : (D.map fun i => (φ i).ref).Nodup) (hD' : (D.map fun i => (φ' i).ref).Nodup) :
    ∀ (l : List (Instr ty Val)) (S : List (K × ℕ)) (V : Valuation τ sig Val) (V' : Valuation τ' sig' Val),
      (∀ i ∈ S, i ∈ D) → (∀ i ∈ S, rd φ V i = rd φ' V' i) → wf D S l = true →
      ∀ i, i ∈ S ∨ i ∈ l.map Instr.dst →
        rd φ (after (l.map (Instr.op φ)) V) i = rd φ' (after (l.map (Instr.op φ')) V') i
  | [], S, V, V', _, h, _, i, hi => by
    rcases hi with hi | hi
    · exact h i hi
    · simp at hi
  | s :: l, S, V, V', hS, h, hw, i, hi => by
    simp only [wf, Bool.and_eq_true, List.all_eq_true, decide_eq_true_eq] at hw
    obtain ⟨⟨hsrc, hdst⟩, hl⟩ := hw
    simp only [List.map_cons, after_cons]
    refine runs_agree φ φ' D hD hD' l (s.dst :: S) _ _ ?_ ?_ hl i ?_
    · intro j hj
      rcases List.mem_cons.mp hj with rfl | hj
      · exact hdst
      · exact hS j hj
    · intro j hj
      by_cases hjd : j = s.dst
      · subst hjd
        rw [rd_op_dst, rd_op_dst]
        exact Instr.val_congr s _ _ fun k hk => h k (hsrc k hk)
      · have hjS : j ∈ S := (List.mem_cons.mp hj).resolve_left hjd
        rw [rd_op_ne φ s V j fun hc => hjd (List.inj_on_of_nodup_map hD (hS j hjS) hdst hc),
          rd_op_ne φ' s V' j fun hc => hjd (List.inj_on_of_nodup_map hD' (hS j hjS) hdst hc)]
        exact h j hjS
    · rcases hi with hi | hi
      · exact Or.inl (List.mem_cons_of_mem _ hi)
      · rcases List.mem_cons.mp (by simpa using hi : i ∈ s.dst :: l.map Instr.dst) with rfl | hi
        · exact Or.inl List.mem_cons_self
        · exact Or.inr hi

end Cert.Proof.Straight

end
-- ==== Proof.Noise.lean ====
/- The noise of the random choice: both programs draw it from the same key by the same line of integer and float
   operations. The line is written once over numbered values (Straight.lean); the kernel's host stretch and the
   reference's call are that line over their own buffers, so the two noises are one array (`noise_agree`). -/
module

public import proofs.«01_k».proof.Proof.Straight
public import proofs.«01_k».proof.Proof.Gen.KernelIdeal.Launch
public import proofs.«01_k».proof.Proof.Gen.ReferenceIdeal

@[expose] public section

set_option maxRecDepth 16384

noncomputable section

namespace Cert.Proof.Noise

open Idealize.ShloMosaic Idealize.ShloMosaic.TcCoe Idealize.ShloMosaic.StableHlo
open Cert.Proof.Straight

/-- The kinds of array the line makes: float scalars (`s`, and `o` as one by one), the key and its halves (`k`, `j`),
    32- and 64-bit words (`z`, `q`), and arrays over all rows and actions of words (`v`, `l`) and of floats (`x`). -/
inductive Kind where
  | s | o | k | j | z | l | q | v | x
deriving DecidableEq

/-- A kind's shape and element type. -/
abbrev Kind.ty : Kind → BufTy
  | .s => ⟨Cert.KernelIdeal.S_, .f32⟩
  | .o => ⟨Cert.KernelIdeal.S1x1, .f32⟩
  | .k => ⟨Cert.KernelIdeal.S2, .i32⟩
  | .j => ⟨Cert.KernelIdeal.S1, .i32⟩
  | .z => ⟨Cert.KernelIdeal.S_, .i32⟩
  | .l => ⟨Cert.KernelIdeal.S16384x1000, .i64⟩
  | .q => ⟨Cert.KernelIdeal.S_, .i64⟩
  | .v => ⟨Cert.KernelIdeal.S16384x1000, .i32⟩
  | .x => ⟨Cert.KernelIdeal.S16384x1000, .f32⟩

variable {F : FTy → Type} [FloatOps F] [Named F]

section Line

open Cert.KernelIdeal Cert.KernelIdeal.Gen

/-- An operation of the line. -/
abbrev Op (F : FTy → Type) : Type := Instr Kind.ty (Elt F)

/-- A word over every row and action. -/
abbrev spread (a b : ℕ) : Op F := .un (.z, a) (.v, b) (broadcastInDim S16384x1000 ![] bcast_S_S16384x1000)
/-- A literal word. -/
abbrev word (a : ℕ) (w : BitVec 32) : Op F := .nul (.z, a) (constantI S_ 32 w)

/-- One round: the first half plus the second; the second rotated left by `r` (`s` is `32 - r`), crossed with the first. -/
abbrev round (x y z v : ℕ) (r s : BitVec 32) : List (Op F) :=
  [ .bin (.v, x) (.v, y) (.v, v) addi,
    word z r, spread z (v + 1), .bin (.v, y) (.v, v + 1) (.v, v + 2) Host.shli,
    word (z + 1) s, spread (z + 1) (v + 3), .bin (.v, y) (.v, v + 3) (.v, v + 4) Host.shrui,
    .bin (.v, v + 2) (.v, v + 4) (.v, v + 5) ori, .bin (.v, v) (.v, v + 5) (.v, v + 6) xori ]

/-- The key mixed in: word `a` into the first half, word `b` and the count `n` into the second. -/
abbrev mixKey (x y z v a b : ℕ) (n : BitVec 32) : List (Op F) :=
  [ spread a v, .bin (.v, x) (.v, v) (.v, v + 1) addi, spread b (v + 2), .bin (.v, y) (.v, v + 2) (.v, v + 3) addi,
    word z n, spread z (v + 4), .bin (.v, v + 3) (.v, v + 4) (.v, v + 5) addi ]

/-- Four rounds and a mixing of the key. -/
abbrev four (x y z v : ℕ) (r₁ s₁ r₂ s₂ r₃ s₃ r₄ s₄ : BitVec 32) (a b : ℕ) (n : BitVec 32) : List (Op F) :=
  round x y z v r₁ s₁ ++ (round v (v + 6) (z + 2) (v + 7) r₂ s₂ ++ (round (v + 7) (v + 13) (z + 4) (v + 14) r₃ s₃
    ++ (round (v + 14) (v + 20) (z + 6) (v + 21) r₄ s₄ ++ mixKey (v + 21) (v + 27) (z + 8) (v + 28) a b n)))

/-- The four rounds of even turn, and of odd turn. -/
abbrev even (x y z v a b : ℕ) (n : BitVec 32) : List (Op F) := four x y z v 13 19 15 17 26 6 6 26 a b n
@[inherit_doc even]
abbrev odd (x y z v a b : ℕ) (n : BitVec 32) : List (Op F) := four x y z v 17 15 29 3 16 16 24 8 a b n

/-- Before the rounds: the bounds of the uniform draw, the key's words, and the count of each place. -/
abbrev opening : List (Op F) :=
  [ .nul (.s, 0) (constant S_ .f32 0x3F800000#32),
    .nul (.s, 1) (constant S_ .f32 0x00800000#32),
    .un (.s, 0) (.s, 2) id,
    .un (.s, 1) (.o, 0) (broadcastInDim S1x1 ![] bcast_S_S1x1),
    .un (.s, 2) (.o, 1) (broadcastInDim S1x1 ![] bcast_S_S1x1),
    .un (.k, 0) (.j, 0) (extractStridedSlice S1 ![0] · slices_S2_S1_0),
    .rsh (.j, 0) (.z, 0) rfl shapeCasts_S1_S_,
    .un (.k, 0) (.j, 1) (extractStridedSlice S1 ![1] · slices_S2_S1_1),
    .rsh (.j, 1) (.z, 1) rfl shapeCasts_S1_S_,
    .nul (.l, 0) (iotaInDim S16384x1000 64 0),
    .nul (.l, 1) (iotaInDim S16384x1000 64 1),
    .nul (.q, 0) (constantI S_ 64 1000#64),
    .un (.q, 0) (.l, 2) (broadcastInDim S16384x1000 ![] bcast_S_S16384x1000),
    .bin (.l, 2) (.l, 0) (.l, 3) muli,
    .nul (.q, 1) (constantI S_ 64 1#64),
    .un (.q, 1) (.l, 4) (broadcastInDim S16384x1000 ![] bcast_S_S16384x1000),
    .bin (.l, 4) (.l, 1) (.l, 5) muli,
    .bin (.l, 3) (.l, 5) (.l, 6) addi,
    .nul (.q, 2) (constantI S_ 64 32#64),
    .un (.q, 2) (.l, 7) (broadcastInDim S16384x1000 ![] bcast_S_S16384x1000),
    .bin (.l, 6) (.l, 7) (.l, 8) Host.shrui,
    .un (.l, 6) (.v, 0) (trunci 32 · natLt_32_64),
    .un (.l, 8) (.v, 1) (trunci 32 · natLt_32_64),
    .bin (.z, 0) (.z, 1) (.z, 2) xori,
    word 3 466688986#32,
    .bin (.z, 2) (.z, 3) (.z, 4) xori,
    spread 0 2, .bin (.v, 1) (.v, 2) (.v, 3) addi,
    spread 1 4, .bin (.v, 0) (.v, 4) (.v, 5) addi ]

/-- After the rounds: the words as floats in the unit interval, and the noise, minus the logarithm of minus their logarithm. -/
abbrev closing : List (Op F) :=
  [ .bin (.v, 171) (.v, 175) (.v, 176) xori,
    word 50 9#32, spread 50 177, .bin (.v, 176) (.v, 177) (.v, 178) Host.shrui,
    word 51 1065353216#32, spread 51 179, .bin (.v, 178) (.v, 179) (.v, 180) ori,
    .un (.v, 180) (.x, 0) (bitcastToFloat .f32),
    .nul (.s, 3) (constant S_ .f32 0x3F800000#32),
    .un (.s, 3) (.x, 1) (broadcastInDim S16384x1000 ![] bcast_S_S16384x1000),
    .bin (.x, 0) (.x, 1) (.x, 2) subf,
    .bin (.o, 1) (.o, 0) (.o, 2) subf,
    .un (.o, 2) (.x, 3) (broadcastInDim S16384x1000 ![0, 1] bcast_S1x1_S16384x1000_0_1),
    .bin (.x, 2) (.x, 3) (.x, 4) mulf,
    .un (.o, 0) (.x, 5) (broadcastInDim S16384x1000 ![0, 1] bcast_S1x1_S16384x1000_0_1),
    .bin (.x, 4) (.x, 5) (.x, 6) addf,
    .un (.o, 0) (.x, 7) (broadcastInDim S16384x1000 ![0, 1] bcast_S1x1_S16384x1000_0_1),
    .bin (.x, 7) (.x, 6) (.x, 8) maximumf,
    .un (.x, 8) (.x, 9) Host.log, .un (.x, 9) (.x, 10) Host.negf,
    .un (.x, 10) (.x, 11) Host.log, .un (.x, 11) (.x, 12) Host.negf ]

/-- The line: from the key (`k 0`) to the noise (`x 12`). -/
abbrev line : List (Op F) :=
  opening ++ (even 3 5 5 6 1 4 1#32 ++ (odd 35 39 14 40 4 0 2#32 ++ (even 69 73 23 74 0 1 3#32
    ++ (odd 103 107 32 108 1 4 4#32 ++ (even 137 141 41 142 4 0 5#32 ++ closing)))))

end Line

namespace K

open Cert.KernelIdeal Cert.KernelIdeal.Gen

/-- The kernel's buffers. -/
def bufs : (i : Kind × ℕ) → TRef Cert.KernelIdeal.sig (Kind.ty i.1)
  | (.s, n) => List.getD
    [ .of main_call0_cst, .of main_call0_cst_0, .of main_call0_call0_v0, .of main_call0_call0_cst ] n (.of main_call0_cst)
  | (.o, n) => List.getD
    [ .of main_call0_call0_v1, .of main_call0_call0_v2, .of main_call0_call0_v27 ] n (.of main_call0_call0_v1)
  | (.k, n) => List.getD
    [ .of main_v6 ] n (.of main_v6)
  | (.j, n) => List.getD
    [ .of main_call0_call0_v3, .of main_call0_call0_v5 ] n (.of main_call0_call0_v3)
  | (.z, n) => List.getD
    [ .of main_call0_call0_v4, .of main_call0_call0_v6, .of main_call0_call0_call0_v0,
      .of main_call0_call0_call0_c, .of main_call0_call0_call0_v1, .of main_call0_call0_call0_c_0,
      .of main_call0_call0_call0_c_1, .of main_call0_call0_call0_c_2, .of main_call0_call0_call0_c_3,
      .of main_call0_call0_call0_c_4, .of main_call0_call0_call0_c_5, .of main_call0_call0_call0_c_6,
      .of main_call0_call0_call0_c_7, .of main_call0_call0_call0_c_8, .of main_call0_call0_call0_c_9,
      .of main_call0_call0_call0_c_10, .of main_call0_call0_call0_c_11, .of main_call0_call0_call0_c_12,
      .of main_call0_call0_call0_c_13, .of main_call0_call0_call0_c_14, .of main_call0_call0_call0_c_15,
      .of main_call0_call0_call0_c_16, .of main_call0_call0_call0_c_17, .of main_call0_call0_call0_c_18,
      .of main_call0_call0_call0_c_19, .of main_call0_call0_call0_c_20, .of main_call0_call0_call0_c_21,
      .of main_call0_call0_call0_c_22, .of main_call0_call0_call0_c_23, .of main_call0_call0_call0_c_24,
      .of main_call0_call0_call0_c_25, .of main_call0_call0_call0_c_26, .of main_call0_call0_call0_c_27,
      .of main_call0_call0_call0_c_28, .of main_call0_call0_call0_c_29, .of main_call0_call0_call0_c_30,
      .of main_call0_call0_call0_c_31, .of main_call0_call0_call0_c_32, .of main_call0_call0_call0_c_33,
      .of main_call0_call0_call0_c_34, .of main_call0_call0_call0_c_35, .of main_call0_call0_call0_c_36,
      .of main_call0_call0_call0_c_37, .of main_call0_call0_call0_c_38, .of main_call0_call0_call0_c_39,
      .of main_call0_call0_call0_c_40, .of main_call0_call0_call0_c_41, .of main_call0_call0_call0_c_42,
      .of main_call0_call0_call0_c_43, .of main_call0_call0_call0_c_44, .of main_call0_call0_c_2,
      .of main_call0_call0_c_3 ] n (.of main_call0_call0_v4)
  | (.l, n) => List.getD
    [ .of main_call0_call0_v7, .of main_call0_call0_v8, .of main_call0_call0_v9, .of main_call0_call0_v10,
      .of main_call0_call0_v11, .of main_call0_call0_v12, .of main_call0_call0_v13, .of main_call0_call0_v14,
      .of main_call0_call0_v15 ] n (.of main_call0_call0_v7)
  | (.q, n) => List.getD
    [ .of main_call0_call0_c, .of main_call0_call0_c_0, .of main_call0_call0_c_1 ] n (.of main_call0_call0_c)
  | (.v, n) => List.getD
    [ .of main_call0_call0_v16, .of main_call0_call0_v17, .of main_call0_call0_call0_v2,
      .of main_call0_call0_call0_v3, .of main_call0_call0_call0_v4, .of main_call0_call0_call0_v5,
      .of main_call0_call0_call0_v6, .of main_call0_call0_call0_v7, .of main_call0_call0_call0_v8,
      .of main_call0_call0_call0_v9, .of main_call0_call0_call0_v10, .of main_call0_call0_call0_v11,
      .of main_call0_call0_call0_v12, .of main_call0_call0_call0_v13, .of main_call0_call0_call0_v14,
      .of main_call0_call0_call0_v15, .of main_call0_call0_call0_v16, .of main_call0_call0_call0_v17,
      .of main_call0_call0_call0_v18, .of main_call0_call0_call0_v19, .of main_call0_call0_call0_v20,
      .of main_call0_call0_call0_v21, .of main_call0_call0_call0_v22, .of main_call0_call0_call0_v23,
      .of main_call0_call0_call0_v24, .of main_call0_call0_call0_v25, .of main_call0_call0_call0_v26,
      .of main_call0_call0_call0_v27, .of main_call0_call0_call0_v28, .of main_call0_call0_call0_v29,
      .of main_call0_call0_call0_v30, .of main_call0_call0_call0_v31, .of main_call0_call0_call0_v32,
      .of main_call0_call0_call0_v33, .of main_call0_call0_call0_v34, .of main_call0_call0_call0_v35,
      .of main_call0_call0_call0_v36, .of main_call0_call0_call0_v37, .of main_call0_call0_call0_v38,
      .of main_call0_call0_call0_v39, .of main_call0_call0_call0_v40, .of main_call0_call0_call0_v41,
      .of main_call0_call0_call0_v42, .of main_call0_call0_call0_v43, .of main_call0_call0_call0_v44,
      .of main_call0_call0_call0_v45, .of main_call0_call0_call0_v46, .of main_call0_call0_call0_v47,
      .of main_call0_call0_call0_v48, .of main_call0_call0_call0_v49, .of main_call0_call0_call0_v50,
      .of main_call0_call0_call0_v51, .of main_call0_call0_call0_v52, .of main_call0_call0_call0_v53,
      .of main_call0_call0_call0_v54, .of main_call0_call0_call0_v55, .of main_call0_call0_call0_v56,
      .of main_call0_call0_call0_v57, .of main_call0_call0_call0_v58, .of main_call0_call0_call0_v59,
      .of main_call0_call0_call0_v60, .of main_call0_call0_call0_v61, .of main_call0_call0_call0_v62,
      .of main_call0_call0_call0_v63, .of main_call0_call0_call0_v64, .of main_call0_call0_call0_v65,
      .of main_call0_call0_call0_v66, .of main_call0_call0_call0_v67, .of main_call0_call0_call0_v68,
      .of main_call0_call0_call0_v69, .of main_call0_call0_call0_v70, .of main_call0_call0_call0_v71,
      .of main_call0_call0_call0_v72, .of main_call0_call0_call0_v73, .of main_call0_call0_call0_v74,
      .of main_call0_call0_call0_v75, .of main_call0_call0_call0_v76, .of main_call0_call0_call0_v77,
      .of main_call0_call0_call0_v78, .of main_call0_call0_call0_v79, .of main_call0_call0_call0_v80,
      .of main_call0_call0_call0_v81, .of main_call0_call0_call0_v82, .of main_call0_call0_call0_v83,
      .of main_call0_call0_call0_v84, .of main_call0_call0_call0_v85, .of main_call0_call0_call0_v86,
      .of main_call0_call0_call0_v87, .of main_call0_call0_call0_v88, .of main_call0_call0_call0_v89,
      .of main_call0_call0_call0_v90, .of main_call0_call0_call0_v91, .of main_call0_call0_call0_v92,
      .of main_call0_call0_call0_v93, .of main_call0_call0_call0_v94, .of main_call0_call0_call0_v95,
      .of main_call0_call0_call0_v96, .of main_call0_call0_call0_v97, .of main_call0_call0_call0_v98,
      .of main_call0_call0_call0_v99, .of main_call0_call0_call0_v100, .of main_call0_call0_call0_v101,
      .of main_call0_call0_call0_v102, .of main_call0_call0_call0_v103, .of main_call0_call0_call0_v104,
      .of main_call0_call0_call0_v105, .of main_call0_call0_call0_v106, .of main_call0_call0_call0_v107,
      .of main_call0_call0_call0_v108, .of main_call0_call0_call0_v109, .of main_call0_call0_call0_v110,
      .of main_call0_call0_call0_v111, .of main_call0_call0_call0_v112, .of main_call0_call0_call0_v113,
      .of main_call0_call0_call0_v114, .of main_call0_call0_call0_v115, .of main_call0_call0_call0_v116,
      .of main_call0_call0_call0_v117, .of main_call0_call0_call0_v118, .of main_call0_call0_call0_v119,
      .of main_call0_call0_call0_v120, .of main_call0_call0_call0_v121, .of main_call0_call0_call0_v122,
      .of main_call0_call0_call0_v123, .of main_call0_call0_call0_v124, .of main_call0_call0_call0_v125,
      .of main_call0_call0_call0_v126, .of main_call0_call0_call0_v127, .of main_call0_call0_call0_v128,
      .of main_call0_call0_call0_v129, .of main_call0_call0_call0_v130, .of main_call0_call0_call0_v131,
      .of main_call0_call0_call0_v132, .of main_call0_call0_call0_v133, .of main_call0_call0_call0_v134,
      .of main_call0_call0_call0_v135, .of main_call0_call0_call0_v136, .of main_call0_call0_call0_v137,
      .of main_call0_call0_call0_v138, .of main_call0_call0_call0_v139, .of main_call0_call0_call0_v140,
      .of main_call0_call0_call0_v141, .of main_call0_call0_call0_v142, .of main_call0_call0_call0_v143,
      .of main_call0_call0_call0_v144, .of main_call0_call0_call0_v145, .of main_call0_call0_call0_v146,
      .of main_call0_call0_call0_v147, .of main_call0_call0_call0_v148, .of main_call0_call0_call0_v149,
      .of main_call0_call0_call0_v150, .of main_call0_call0_call0_v151, .of main_call0_call0_call0_v152,
      .of main_call0_call0_call0_v153, .of main_call0_call0_call0_v154, .of main_call0_call0_call0_v155,
      .of main_call0_call0_call0_v156, .of main_call0_call0_call0_v157, .of main_call0_call0_call0_v158,
      .of main_call0_call0_call0_v159, .of main_call0_call0_call0_v160, .of main_call0_call0_call0_v161,
      .of main_call0_call0_call0_v162, .of main_call0_call0_call0_v163, .of main_call0_call0_call0_v164,
      .of main_call0_call0_call0_v165, .of main_call0_call0_call0_v166, .of main_call0_call0_call0_v167,
      .of main_call0_call0_call0_v168, .of main_call0_call0_call0_v169, .of main_call0_call0_call0_v170,
      .of main_call0_call0_v18_0, .of main_call0_call0_call0_v172, .of main_call0_call0_call0_v173,
      .of main_call0_call0_call0_v174, .of main_call0_call0_v18_1, .of main_call0_call0_v19,
      .of main_call0_call0_v20, .of main_call0_call0_v21, .of main_call0_call0_v22, .of main_call0_call0_v23 ] n (.of main_call0_call0_v16)
  | (.x, n) => List.getD
    [ .of main_call0_call0_v24, .of main_call0_call0_v25, .of main_call0_call0_v26, .of main_call0_call0_v28,
      .of main_call0_call0_v29, .of main_call0_call0_v30, .of main_call0_call0_v31, .of main_call0_call0_v32,
      .of main_call0_v0, .of main_call0_v1, .of main_call0_v2, .of main_call0_v3, .of main_v7 ] n (.of main_call0_call0_v24)

/-- The kernel's stretch of host operations is the line over these buffers. -/
theorem stretch_eq : (hostOps0_1 : List (HloOp τ sig (Elt F))) = line.map (Instr.op bufs) := rfl

end K

namespace R

open Cert.ReferenceIdeal Cert.ReferenceIdeal.Gen

/-- The reference's buffers. -/
def bufs : (i : Kind × ℕ) → TRef Cert.ReferenceIdeal.sig (Kind.ty i.1)
  | (.s, n) => List.getD
    [ .of main_call5_cst, .of main_call5_cst_0, .of main_call5_call0_v0, .of main_call5_call0_cst ] n (.of main_call5_cst)
  | (.o, n) => List.getD
    [ .of main_call5_call0_v1, .of main_call5_call0_v2, .of main_call5_call0_v27 ] n (.of main_call5_call0_v1)
  | (.k, n) => List.getD
    [ .of main_v49 ] n (.of main_v49)
  | (.j, n) => List.getD
    [ .of main_call5_call0_v3, .of main_call5_call0_v5 ] n (.of main_call5_call0_v3)
  | (.z, n) => List.getD
    [ .of main_call5_call0_v4, .of main_call5_call0_v6, .of main_call5_call0_call0_v0,
      .of main_call5_call0_call0_c, .of main_call5_call0_call0_v1, .of main_call5_call0_call0_c_0,
      .of main_call5_call0_call0_c_1, .of main_call5_call0_call0_c_2, .of main_call5_call0_call0_c_3,
      .of main_call5_call0_call0_c_4, .of main_call5_call0_call0_c_5, .of main_call5_call0_call0_c_6,
      .of main_call5_call0_call0_c_7, .of main_call5_call0_call0_c_8, .of main_call5_call0_call0_c_9,
      .of main_call5_call0_call0_c_10, .of main_call5_call0_call0_c_11, .of main_call5_call0_call0_c_12,
      .of main_call5_call0_call0_c_13, .of main_call5_call0_call0_c_14, .of main_call5_call0_call0_c_15,
      .of main_call5_call0_call0_c_16, .of main_call5_call0_call0_c_17, .of main_call5_call0_call0_c_18,
      .of main_call5_call0_call0_c_19, .of main_call5_call0_call0_c_20, .of main_call5_call0_call0_c_21,
      .of main_call5_call0_call0_c_22, .of main_call5_call0_call0_c_23, .of main_call5_call0_call0_c_24,
      .of main_call5_call0_call0_c_25, .of main_call5_call0_call0_c_26, .of main_call5_call0_call0_c_27,
      .of main_call5_call0_call0_c_28, .of main_call5_call0_call0_c_29, .of main_call5_call0_call0_c_30,
      .of main_call5_call0_call0_c_31, .of main_call5_call0_call0_c_32, .of main_call5_call0_call0_c_33,
      .of main_call5_call0_call0_c_34, .of main_call5_call0_call0_c_35, .of main_call5_call0_call0_c_36,
      .of main_call5_call0_call0_c_37, .of main_call5_call0_call0_c_38, .of main_call5_call0_call0_c_39,
      .of main_call5_call0_call0_c_40, .of main_call5_call0_call0_c_41, .of main_call5_call0_call0_c_42,
      .of main_call5_call0_call0_c_43, .of main_call5_call0_call0_c_44, .of main_call5_call0_c_2,
      .of main_call5_call0_c_3 ] n (.of main_call5_call0_v4)
  | (.l, n) => List.getD
    [ .of main_call5_call0_v7, .of main_call5_call0_v8, .of main_call5_call0_v9, .of main_call5_call0_v10,
      .of main_call5_call0_v11, .of main_call5_call0_v12, .of main_call5_call0_v13, .of main_call5_call0_v14,
      .of main_call5_call0_v15 ] n (.of main_call5_call0_v7)
  | (.q, n) => List.getD
    [ .of main_call5_call0_c, .of main_call5_call0_c_0, .of main_call5_call0_c_1 ] n (.of main_call5_call0_c)
  | (.v, n) => List.getD
    [ .of main_call5_call0_v16, .of main_call5_call0_v17, .of main_call5_call0_call0_v2,
      .of main_call5_call0_call0_v3, .of main_call5_call0_call0_v4, .of main_call5_call0_call0_v5,
      .of main_call5_call0_call0_v6, .of main_call5_call0_call0_v7, .of main_call5_call0_call0_v8,
      .of main_call5_call0_call0_v9, .of main_call5_call0_call0_v10, .of main_call5_call0_call0_v11,
      .of main_call5_call0_call0_v12, .of main_call5_call0_call0_v13, .of main_call5_call0_call0_v14,
      .of main_call5_call0_call0_v15, .of main_call5_call0_call0_v16, .of main_call5_call0_call0_v17,
      .of main_call5_call0_call0_v18, .of main_call5_call0_call0_v19, .of main_call5_call0_call0_v20,
      .of main_call5_call0_call0_v21, .of main_call5_call0_call0_v22, .of main_call5_call0_call0_v23,
      .of main_call5_call0_call0_v24, .of main_call5_call0_call0_v25, .of main_call5_call0_call0_v26,
      .of main_call5_call0_call0_v27, .of main_call5_call0_call0_v28, .of main_call5_call0_call0_v29,
      .of main_call5_call0_call0_v30, .of main_call5_call0_call0_v31, .of main_call5_call0_call0_v32,
      .of main_call5_call0_call0_v33, .of main_call5_call0_call0_v34, .of main_call5_call0_call0_v35,
      .of main_call5_call0_call0_v36, .of main_call5_call0_call0_v37, .of main_call5_call0_call0_v38,
      .of main_call5_call0_call0_v39, .of main_call5_call0_call0_v40, .of main_call5_call0_call0_v41,
      .of main_call5_call0_call0_v42, .of main_call5_call0_call0_v43, .of main_call5_call0_call0_v44,
      .of main_call5_call0_call0_v45, .of main_call5_call0_call0_v46, .of main_call5_call0_call0_v47,
      .of main_call5_call0_call0_v48, .of main_call5_call0_call0_v49, .of main_call5_call0_call0_v50,
      .of main_call5_call0_call0_v51, .of main_call5_call0_call0_v52, .of main_call5_call0_call0_v53,
      .of main_call5_call0_call0_v54, .of main_call5_call0_call0_v55, .of main_call5_call0_call0_v56,
      .of main_call5_call0_call0_v57, .of main_call5_call0_call0_v58, .of main_call5_call0_call0_v59,
      .of main_call5_call0_call0_v60, .of main_call5_call0_call0_v61, .of main_call5_call0_call0_v62,
      .of main_call5_call0_call0_v63, .of main_call5_call0_call0_v64, .of main_call5_call0_call0_v65,
      .of main_call5_call0_call0_v66, .of main_call5_call0_call0_v67, .of main_call5_call0_call0_v68,
      .of main_call5_call0_call0_v69, .of main_call5_call0_call0_v70, .of main_call5_call0_call0_v71,
      .of main_call5_call0_call0_v72, .of main_call5_call0_call0_v73, .of main_call5_call0_call0_v74,
      .of main_call5_call0_call0_v75, .of main_call5_call0_call0_v76, .of main_call5_call0_call0_v77,
      .of main_call5_call0_call0_v78, .of main_call5_call0_call0_v79, .of main_call5_call0_call0_v80,
      .of main_call5_call0_call0_v81, .of main_call5_call0_call0_v82, .of main_call5_call0_call0_v83,
      .of main_call5_call0_call0_v84, .of main_call5_call0_call0_v85, .of main_call5_call0_call0_v86,
      .of main_call5_call0_call0_v87, .of main_call5_call0_call0_v88, .of main_call5_call0_call0_v89,
      .of main_call5_call0_call0_v90, .of main_call5_call0_call0_v91, .of main_call5_call0_call0_v92,
      .of main_call5_call0_call0_v93, .of main_call5_call0_call0_v94, .of main_call5_call0_call0_v95,
      .of main_call5_call0_call0_v96, .of main_call5_call0_call0_v97, .of main_call5_call0_call0_v98,
      .of main_call5_call0_call0_v99, .of main_call5_call0_call0_v100, .of main_call5_call0_call0_v101,
      .of main_call5_call0_call0_v102, .of main_call5_call0_call0_v103, .of main_call5_call0_call0_v104,
      .of main_call5_call0_call0_v105, .of main_call5_call0_call0_v106, .of main_call5_call0_call0_v107,
      .of main_call5_call0_call0_v108, .of main_call5_call0_call0_v109, .of main_call5_call0_call0_v110,
      .of main_call5_call0_call0_v111, .of main_call5_call0_call0_v112, .of main_call5_call0_call0_v113,
      .of main_call5_call0_call0_v114, .of main_call5_call0_call0_v115, .of main_call5_call0_call0_v116,
      .of main_call5_call0_call0_v117, .of main_call5_call0_call0_v118, .of main_call5_call0_call0_v119,
      .of main_call5_call0_call0_v120, .of main_call5_call0_call0_v121, .of main_call5_call0_call0_v122,
      .of main_call5_call0_call0_v123, .of main_call5_call0_call0_v124, .of main_call5_call0_call0_v125,
      .of main_call5_call0_call0_v126, .of main_call5_call0_call0_v127, .of main_call5_call0_call0_v128,
      .of main_call5_call0_call0_v129, .of main_call5_call0_call0_v130, .of main_call5_call0_call0_v131,
      .of main_call5_call0_call0_v132, .of main_call5_call0_call0_v133, .of main_call5_call0_call0_v134,
      .of main_call5_call0_call0_v135, .of main_call5_call0_call0_v136, .of main_call5_call0_call0_v137,
      .of main_call5_call0_call0_v138, .of main_call5_call0_call0_v139, .of main_call5_call0_call0_v140,
      .of main_call5_call0_call0_v141, .of main_call5_call0_call0_v142, .of main_call5_call0_call0_v143,
      .of main_call5_call0_call0_v144, .of main_call5_call0_call0_v145, .of main_call5_call0_call0_v146,
      .of main_call5_call0_call0_v147, .of main_call5_call0_call0_v148, .of main_call5_call0_call0_v149,
      .of main_call5_call0_call0_v150, .of main_call5_call0_call0_v151, .of main_call5_call0_call0_v152,
      .of main_call5_call0_call0_v153, .of main_call5_call0_call0_v154, .of main_call5_call0_call0_v155,
      .of main_call5_call0_call0_v156, .of main_call5_call0_call0_v157, .of main_call5_call0_call0_v158,
      .of main_call5_call0_call0_v159, .of main_call5_call0_call0_v160, .of main_call5_call0_call0_v161,
      .of main_call5_call0_call0_v162, .of main_call5_call0_call0_v163, .of main_call5_call0_call0_v164,
      .of main_call5_call0_call0_v165, .of main_call5_call0_call0_v166, .of main_call5_call0_call0_v167,
      .of main_call5_call0_call0_v168, .of main_call5_call0_call0_v169, .of main_call5_call0_call0_v170,
      .of main_call5_call0_v18_0, .of main_call5_call0_call0_v172, .of main_call5_call0_call0_v173,
      .of main_call5_call0_call0_v174, .of main_call5_call0_v18_1, .of main_call5_call0_v19,
      .of main_call5_call0_v20, .of main_call5_call0_v21, .of main_call5_call0_v22, .of main_call5_call0_v23 ] n (.of main_call5_call0_v16)
  | (.x, n) => List.getD
    [ .of main_call5_call0_v24, .of main_call5_call0_v25, .of main_call5_call0_v26, .of main_call5_call0_v28,
      .of main_call5_call0_v29, .of main_call5_call0_v30, .of main_call5_call0_v31, .of main_call5_call0_v32,
      .of main_call5_v0, .of main_call5_v1, .of main_call5_v2, .of main_call5_v3, .of main_v50 ] n (.of main_call5_call0_v24)

/-- The reference's stretch. -/
abbrev stretch : List (HloOp τ sig (Elt F)) := line.map (Instr.op bufs)

end R

/-- Every value of the line: the key, and what its operations make, with the line read as numbers only. -/
def extent : List (Kind × ℕ) :=
  (.k, 0) :: ((List.range 4).map (Prod.mk .s) ++ (List.range 3).map (Prod.mk .o) ++ (List.range 2).map (Prod.mk .j)
    ++ (List.range 52).map (Prod.mk .z) ++ (List.range 9).map (Prod.mk .l) ++ (List.range 3).map (Prod.mk .q)
    ++ (List.range 181).map (Prod.mk .v) ++ (List.range 13).map (Prod.mk .x))

/-- The kernel's buffers are distinct. -/
theorem K.nodup : (extent.map fun i => (K.bufs i).ref).Nodup := by decide +kernel
/-- So are the reference's. -/
theorem R.nodup : (extent.map fun i => (R.bufs i).ref).Nodup := by decide +kernel

/-- The line reads what is known only. -/
theorem line_wf : wf extent [(.k, 0)] (line (F := F)) = true := by rfl

/-- Equal keys, equal noise. -/
theorem noise_agree (V : Valuation Cert.KernelIdeal.τ Cert.KernelIdeal.sig (Elt F))
    (V' : Valuation Cert.ReferenceIdeal.τ Cert.ReferenceIdeal.sig (Elt F))
    (hk : rd K.bufs V (.k, 0) = rd R.bufs V' (.k, 0)) :
    rd K.bufs (after Cert.KernelIdeal.Gen.hostOps0_1 V) (.x, 12) = rd R.bufs (after R.stretch V') (.x, 12) := by
  rw [K.stretch_eq]
  refine runs_agree K.bufs R.bufs extent K.nodup R.nodup line [(.k, 0)] V V' ?_ ?_ line_wf (.x, 12) (Or.inr ?_)
  · intro i hi
    rw [List.mem_singleton.mp hi]
    exact List.mem_cons_self
  · intro i hi
    rw [List.mem_singleton.mp hi]
    exact hk
  · simp only [line, closing, List.map_append, List.mem_append, List.map_cons, Instr.dst, List.mem_cons]
    simp

end Cert.Proof.Noise

end
-- ==== Proof.Entry.lean ====
/- What the kernel's region finds in its arrays, and what the three operations after it make of its results. -/
module

public import proofs.«01_k».proof.Proof.Noise
public import proofs.«01_k».proof.Proof.Gen.KernelIdeal.Frame
public import Idealize.ShloMosaic.Lib.Pipeline.ValueKit
public import Idealize.ShloMosaic.Lib.Pipeline.FrameTail
public import Idealize.ShloMosaic.Lib.Pointwise
public import Idealize.ShloMosaic.Lib.Claim

@[expose] public section

set_option maxRecDepth 16384

noncomputable section

namespace Cert.Proof.Entry

open Idealize.ShloMosaic Idealize.ShloMosaic.TcCoe Idealize.ShloMosaic.StableHlo Idealize.SL.Sem
open Cert.KernelIdeal Cert.KernelIdeal.Gen
open Cert.Proof

variable {F : FTy → Type} [FloatOps F] [Named F]
variable (m : (ℓ : Loc nD τ sig) → Buf (Elt F) ℓ)

/-- A line run over the end of another. -/
theorem after_append (l₁ l₂ : List (HloOp τ sig (Elt F))) (V : Valuation τ sig (Elt F)) :
    after (l₁ ++ l₂) V = after l₂ (after l₁ V) := by
  induction l₁ generalizing V with
  | nil => rfl
  | cons o l ih => exact ih _

/-- The buffers before the six operations that lay the operands out. -/
abbrev before (c : Dev nD) : Valuation τ sig (Elt F) := after hostOps0_1 (after hostOps0 fun b => m (c, b))

theorem V0_eq (c : Dev nD) : V0 m c = after hostOps0_2 (before m c) := by
  show after (hostOps0 ++ (hostOps0_1 ++ (hostOps0_2 ++ []))) _ = _
  rw [after_append, after_append, List.append_nil]

/-- They leave every other buffer alone. -/
theorem layout_keep (V : Valuation τ sig (Elt F)) {r : Ref sig .tc} (h : r ∉ [main_v8, main_v9, main_v10, main_v11, main_v12, main_v13]) :
    after hostOps0_2 V (Proc.devRef .tc r) = V (Proc.devRef .tc r) :=
  after_of_writes_sub _ V (forall_writes_sub_of_map rfl) (W := [main_v8, main_v9, main_v10, main_v11, main_v12, main_v13]) h

theorem before_arg0 (c : Dev nD) : before m c (Proc.devRef .tc main_arg0) = m ((c : Thread nD τ).loc main_arg0) := by
  rw [← layout_keep (before m c) (r := main_arg0) (by decide), ← V0_eq]; exact V_main_arg0 m c
theorem before_arg1 (c : Dev nD) : before m c (Proc.devRef .tc main_arg1) = m ((c : Thread nD τ).loc main_arg1) := by
  rw [← layout_keep (before m c) (r := main_arg1) (by decide), ← V0_eq]; exact V_main_arg1 m c
theorem before_arg2 (c : Dev nD) : before m c (Proc.devRef .tc main_arg2) = m ((c : Thread nD τ).loc main_arg2) := by
  rw [← layout_keep (before m c) (r := main_arg2) (by decide), ← V0_eq]; exact V_main_arg2 m c
theorem before_arg3 (c : Dev nD) : before m c (Proc.devRef .tc main_arg3) = m ((c : Thread nD τ).loc main_arg3) := by
  rw [← layout_keep (before m c) (r := main_arg3) (by decide), ← V0_eq]; exact V_main_arg3 m c
theorem before_arg6 (c : Dev nD) : before m c (Proc.devRef .tc main_arg6) = m ((c : Thread nD τ).loc main_arg6) := by
  rw [← layout_keep (before m c) (r := main_arg6) (by decide), ← V0_eq]; exact V_main_arg6 m c

/-- The noise before it is laid out. -/
def noise (c : Dev nD) : FVec F S16384x1000 .f32 := before m c (Proc.devRef .tc main_v7)

theorem V_v8 (c : Dev nD) : V m c main_v8 = transpose S1000x16384 [1, 0] (noise m c) transposes_S16384x1000_S1000x16384_1_0 := by
  show V0 m c (Proc.devRef .tc main_v8) = _
  unfold noise
  rw [V0_eq]
  generalize before m c = W
  after_results
theorem V_v9 (c : Dev nD) : V m c main_v9
    = transpose S480x16384 [1, 0] (m ((c : Thread nD τ).loc main_arg0) : FVec F S16384x480 .f32) transposes_S16384x480_S480x16384_1_0 := by
  show V0 m c (Proc.devRef .tc main_v9) = _
  rw [V0_eq, ← before_arg0 m c]
  generalize before m c = W
  after_results
theorem V_v10 (c : Dev nD) : V m c main_v10
    = transpose S480x16384 [1, 0] (m ((c : Thread nD τ).loc main_arg1) : FVec F S16384x480 .f32) transposes_S16384x480_S480x16384_1_0 := by
  show V0 m c (Proc.devRef .tc main_v10) = _
  rw [V0_eq, ← before_arg1 m c]
  generalize before m c = W
  after_results
theorem V_v11 (c : Dev nD) : V m c main_v11
    = transpose S1000x16384 [1, 0] (m ((c : Thread nD τ).loc main_arg2) : FVec F S16384x1000 .f32) transposes_S16384x1000_S1000x16384_1_0 := by
  show V0 m c (Proc.devRef .tc main_v11) = _
  rw [V0_eq, ← before_arg2 m c]
  generalize before m c = W
  after_results
theorem V_v12 (c : Dev nD) : V m c main_v12
    = shapeCast S1x16384 (m ((c : Thread nD τ).loc main_arg3) : IVec S16384 32) shapeCasts_S16384_S1x16384 := by
  show V0 m c (Proc.devRef .tc main_v12) = _
  rw [V0_eq, ← before_arg3 m c]
  generalize before m c = W
  after_results
  rfl
theorem V_v13 (c : Dev nD) : V m c main_v13
    = transpose S1000x128 [1, 0] (m ((c : Thread nD τ).loc main_arg6) : FVec F S128x1000 .f32) transposes_S128x1000_S1000x128_1_0 := by
  show V0 m c (Proc.devRef .tc main_v13) = _
  rw [V0_eq, ← before_arg6 m c]
  generalize before m c = W
  after_results

/-! ## After the region -/

theorem arr_inj : Function.Injective (Pipeline.arrRef spec0) := by decide

/-- The three results, from the region's arrays. -/
theorem tail_v15 (c : Dev nD) : Pipeline.afterTail₀ cfgs (dats m) 0 (V0 m) [hostOps1] c main_v15
    = shapeCast S16384 ((dats m 0 c).arrAt 9 cfg0.N : IVec S1x16384 32) shapeCasts_S1x16384_S16384 := by
  unfold Pipeline.afterTail₀
  show after hostOps1 (Pipeline.withArrays (cfgs 0).spec c (V0 m c) fun w => (dats m 0 c).arrAt w (cfgs 0).N) (Proc.devRef .tc main_v15) = _
  have h := Pipeline.withArrays_arr (cfgs 0).spec arr_inj c (V0 m c) (fun w => (dats m 0 c).arrAt w (cfgs 0).N) 9
  generalize Pipeline.withArrays (cfgs 0).spec c (V0 m c) (fun w => (dats m 0 c).arrAt w (cfgs 0).N) = W at h ⊢
  after_results
  rw [← h]
  rfl
theorem tail_v16 (c : Dev nD) : Pipeline.afterTail₀ cfgs (dats m) 0 (V0 m) [hostOps1] c main_v16
    = transpose S16384x1000 [1, 0] ((dats m 0 c).arrAt 10 cfg0.N : FVec F S1000x16384 .f32) transposes_S1000x16384_S16384x1000_1_0 := by
  unfold Pipeline.afterTail₀
  show after hostOps1 (Pipeline.withArrays (cfgs 0).spec c (V0 m c) fun w => (dats m 0 c).arrAt w (cfgs 0).N) (Proc.devRef .tc main_v16) = _
  have h := Pipeline.withArrays_arr (cfgs 0).spec arr_inj c (V0 m c) (fun w => (dats m 0 c).arrAt w (cfgs 0).N) 10
  generalize Pipeline.withArrays (cfgs 0).spec c (V0 m c) (fun w => (dats m 0 c).arrAt w (cfgs 0).N) = W at h ⊢
  after_results
  rw [← h]
theorem tail_v17 (c : Dev nD) : Pipeline.afterTail₀ cfgs (dats m) 0 (V0 m) [hostOps1] c main_v17
    = shapeCast S16384 ((dats m 0 c).arrAt 11 cfg0.N : FVec F S1x16384 .f32) shapeCasts_S1x16384_S16384 := by
  unfold Pipeline.afterTail₀
  show after hostOps1 (Pipeline.withArrays (cfgs 0).spec c (V0 m c) fun w => (dats m 0 c).arrAt w (cfgs 0).N) (Proc.devRef .tc main_v17) = _
  have h := Pipeline.withArrays_arr (cfgs 0).spec arr_inj c (V0 m c) (fun w => (dats m 0 c).arrAt w (cfgs 0).N) 11
  generalize Pipeline.withArrays (cfgs 0).spec c (V0 m c) (fun w => (dats m 0 c).arrAt w (cfgs 0).N) = W at h ⊢
  after_results
  rw [← h]
  rfl

end Cert.Proof.Entry

end
-- ==== Proof.Row.lean ====
/- One row of the choice, over the extended reals: the log-softmax, the legal weights, and the noisy logarithms, as the
   kernel takes them (from the exponentials as they are) and as the reference does (from the normalised probabilities).
   The two differ by one positive factor, so they have the same first largest place and the same logarithms. -/
module

public import Idealize.ShloMosaic.PureOps.Ideal.Laws
public import Idealize.ShloMosaic.Lib.Pointwise

@[expose] public section

noncomputable section

namespace Cert.Proof.Row

open Idealize.ShloMosaic

variable {n : ℕ} (z l g : Fin n → EReal)

/-- The largest entry (minus infinity where there is none). -/
def top : EReal := Finset.univ.fold max ⊥ z
/-- An entry less the largest. -/
def low (a : Fin n) : EReal := z a - top z
/-- Its exponential. -/
def ex (a : Fin n) : EReal := Ideal.exp (low z a)
/-- The log-softmax. -/
def lp (a : Fin n) : EReal := low z a - Ideal.log (∑ b, ex z b)

theorem le_top' (a : Fin n) : z a ≤ top z :=
  (Finset.le_fold_max _).mpr (Or.inr ⟨a, Finset.mem_univ a, le_rfl⟩)

theorem exists_top [NeZero n] : ∃ a, z a = top z := by
  have h := (Finset.le_fold_max (s := Finset.univ) (f := z) (b := ⊥) (top z)).mp le_rfl
  rcases h with h | ⟨a, -, h⟩
  · refine ⟨0, le_antisymm (le_top' z 0) (le_trans h bot_le)⟩
  · exact ⟨a, le_antisymm (le_top' z a) h⟩

theorem top_le {c : EReal} (h : ∀ a, z a ≤ c) : top z ≤ c :=
  (Finset.fold_max_le _).mpr ⟨bot_le, fun a _ => h a⟩

/-- The largest entry is zero exactly where all are, if none is negative. -/
theorem top_eq_zero [NeZero n] (h : ∀ a, 0 ≤ z a) : top z = 0 ↔ ∀ a, z a = 0 := by
  constructor
  · intro h0 a
    exact le_antisymm (h0 ▸ le_top' z a) (h a)
  · intro h0
    obtain ⟨a, ha⟩ := exists_top z
    rw [← ha, h0]

/-- The first place of a largest entry. -/
def IsFirst (k : Fin n) : Prop := (∀ a, z a ≤ z k) ∧ ∀ a, z a = z k → k ≤ a

theorem exists_first [NeZero n] : ∃ k, IsFirst z k := by
  obtain ⟨a, ha⟩ := exists_top z
  have hne : (Finset.univ.filter fun b => z b = top z).Nonempty := ⟨a, by simp [ha]⟩
  refine ⟨(Finset.univ.filter fun b => z b = top z).min' hne, ?_, ?_⟩
  · intro b
    rw [(Finset.mem_filter.mp (Finset.min'_mem _ hne)).2]
    exact le_top' z b
  · intro b hb
    rw [(Finset.mem_filter.mp (Finset.min'_mem _ hne)).2] at hb
    exact Finset.min'_le _ _ (by simp [hb])

theorem IsFirst.eq_top {k : Fin n} (h : IsFirst z k) : z k = top z :=
  le_antisymm (le_top' z k) (top_le z h.1)

theorem coe_sum (r : Fin n → ℝ) : (∑ a, (r a : EReal)) = ((∑ a, r a : ℝ) : EReal) := by
  induction (Finset.univ : Finset (Fin n)) using Finset.cons_induction with
  | empty => simp
  | cons a s ha ih => rw [Finset.sum_cons, Finset.sum_cons, ih, EReal.coe_add]

theorem exp_coe (x : ℝ) : Ideal.exp (x : EReal) = (Real.exp x : EReal) := rfl
theorem log_coe_pos {x : ℝ} (h : 0 < x) : Ideal.log (x : EReal) = (Real.log x : EReal) := by
  show (if x ≤ 0 then (⊥ : EReal) else (Real.log x : EReal)) = _
  rw [if_neg (not_le.mpr h)]
theorem log_zero : Ideal.log (0 : EReal) = ⊥ := by
  show (if (0 : ℝ) ≤ 0 then (⊥ : EReal) else (Real.log 0 : EReal)) = _
  rw [if_pos le_rfl]

/-- The exponentials are real and not negative; the normalised probabilities are they by one positive factor; the
    log-softmax is the logarithm of these. -/
theorem scaled [NeZero n] : ∃ (r : Fin n → ℝ) (c : ℝ), 0 < c ∧ ∀ a, 0 ≤ r a ∧ ex z a = (r a : EReal)
    ∧ Ideal.exp (lp z a) = ((r a * c : ℝ) : EReal) ∧ lp z a = Ideal.log ((r a * c : ℝ) : EReal) := by
  by_cases hb : ∀ a, low z a = ⊥
  · refine ⟨fun _ => 0, 1, one_pos, fun a => ?_⟩
    have he : ∀ a, ex z a = 0 := fun a => by rw [ex, hb a]; rfl
    have hl : lp z a = ⊥ := by
      rw [lp, hb a]
      simp
    refine ⟨le_rfl, by rw [he a]; simp, ?_, ?_⟩
    · rw [hl, zero_mul]; rfl
    · rw [hl, zero_mul, EReal.coe_zero, log_zero]
  · have hm : ∃ m : ℝ, top z = (m : EReal) := by
      rcases h : top z with _ | _ | m
      · exact absurd (fun a => by rw [low]; erw [h]; have := le_top' z a; rw [h] at this; rw [le_bot_iff.mp this]; rfl) hb
      · exact absurd (fun a => by rw [low]; erw [h]; exact EReal.sub_top _) hb
      · exact ⟨_, rfl⟩
    obtain ⟨m, hm⟩ := hm
    have hlow : ∀ a, low z a = ⊥ ∨ ∃ x : ℝ, low z a = (x : EReal) := by
      intro a
      have hle := le_top' z a
      rw [low]
      rw [hm] at hle ⊢
      induction h : z a using EReal.rec with
      | bot => left; rfl
      | top => rw [h] at hle; exact absurd hle (by simp)
      | coe y => right; exact ⟨y - m, rfl⟩
    have hex : ∀ a, ∃ x : ℝ, 0 ≤ x ∧ ex z a = (x : EReal) := by
      intro a
      rcases hlow a with h | ⟨x, h⟩
      · exact ⟨0, le_rfl, by rw [ex, h]; rfl⟩
      · exact ⟨Real.exp x, (Real.exp_pos x).le, by rw [ex, h]; rfl⟩
    choose r hr0 hr using hex
    obtain ⟨a₀, ha₀⟩ := exists_top z
    have hr1 : r a₀ = 1 := by
      have h0 : low z a₀ = ((0 : ℝ) : EReal) := by
        rw [low, ha₀, hm, ← EReal.coe_sub, sub_self]
      have := hr a₀
      rw [ex, h0, exp_coe, Real.exp_zero] at this
      exact (EReal.coe_injective this).symm
    have hS : 0 < ∑ a, r a :=
      lt_of_lt_of_le (by rw [hr1]; exact one_pos) (Finset.single_le_sum (fun a _ => hr0 a) (Finset.mem_univ a₀))
    have hlog : Ideal.log (∑ b, ex z b) = ((Real.log (∑ a, r a) : ℝ) : EReal) := by
      rw [Finset.sum_congr rfl fun b _ => hr b, coe_sum, log_coe_pos hS]
    refine ⟨r, Real.exp (-Real.log (∑ a, r a)), Real.exp_pos _, fun a => ⟨hr0 a, hr a, ?_⟩⟩
    rcases hlow a with h | ⟨x, h⟩
    · have hra : r a = 0 := by
        have := hr a
        rw [ex, h] at this
        exact (EReal.coe_injective this).symm
      have hlp : lp z a = ⊥ := by rw [lp, h, hlog]; rfl
      rw [hlp, hra, zero_mul, EReal.coe_zero, log_zero]
      exact ⟨rfl, rfl⟩
    · have hra : r a = Real.exp x := by
        have := hr a
        rw [ex, h, exp_coe] at this
        exact (EReal.coe_injective this).symm
      have hlp : lp z a = ((x - Real.log (∑ a, r a) : ℝ) : EReal) := by rw [lp, h, hlog, EReal.coe_sub]
      rw [hlp, hra, ← Real.exp_add, ← sub_eq_add_neg, log_coe_pos (Real.exp_pos _), Real.log_exp]
      exact ⟨rfl, rfl⟩

/-! ## The weights -/

/-- The kernel's legal weights, and whether none is left; what it picks from; the noiseless logarithms. -/
def wK (a : Fin n) : EReal := ex z a * l a
@[inherit_doc wK]
def noneK : Prop := top (wK z l) = 0
open Classical in
@[inherit_doc wK]
def pickK (a : Fin n) : EReal := if noneK z l then l a else wK z l a
open Classical in
@[inherit_doc wK]
def logK (fl : EReal) (a : Fin n) : EReal := if 0 < pickK z l a then (if noneK z l then 0 else max (lp z a) fl) else ⊥

/-- The reference's. -/
def wR (a : Fin n) : EReal := Ideal.exp (lp z a) * l a
@[inherit_doc wR]
def noneR : Prop := ∀ a, wR z l a = 0
open Classical in
@[inherit_doc wR]
def pickR (a : Fin n) : EReal := if noneR z l then l a else wR z l a
open Classical in
@[inherit_doc wR]
def logR (ep : EReal) (a : Fin n) : EReal := if 0 < pickR z l a then Ideal.log (max (pickR z l a) ep) else ⊥

variable {l}

/-- With legality flags zero or one, the weights are real. -/
theorem weights [NeZero n] (hl : ∀ a, l a = 0 ∨ l a = 1) : ∃ (w : Fin n → ℝ) (c : ℝ), 0 < c ∧ ∀ a, 0 ≤ w a ∧ wK z l a = (w a : EReal)
    ∧ wR z l a = ((w a * c : ℝ) : EReal) ∧ (0 < w a → l a = 1 ∧ lp z a = Ideal.log ((w a * c : ℝ) : EReal)) := by
  obtain ⟨r, c, hc, h⟩ := scaled z
  classical
  refine ⟨fun a => if l a = 1 then r a else 0, c, hc, fun a => ?_⟩
  obtain ⟨h0, h1, h2, h3⟩ := h a
  rcases hl a with e | e
  · have hne : ¬ (l a = 1) := by rw [e]; exact zero_ne_one
    simp only [if_neg hne]
    refine ⟨le_rfl, ?_, ?_, fun hlt => absurd hlt (lt_irrefl _)⟩
    · rw [wK, e, mul_zero, EReal.coe_zero]
    · rw [wR, e, mul_zero, zero_mul, EReal.coe_zero]
  · simp only [if_pos e]
    refine ⟨h0, ?_, ?_, fun _ => ⟨e, h3⟩⟩
    · rw [wK, e, mul_one, h1]
    · rw [wR, e, mul_one, h2]

theorem none_iff [NeZero n] (hl : ∀ a, l a = 0 ∨ l a = 1) : noneK z l ↔ noneR z l := by
  obtain ⟨w, c, hc, h⟩ := weights z hl
  have h0 : ∀ a, 0 ≤ wK z l a := fun a => by rw [(h a).2.1]; exact EReal.coe_nonneg.mpr (h a).1
  rw [noneK, noneR, top_eq_zero _ h0]
  refine forall_congr' fun a => ?_
  rw [(h a).2.1, (h a).2.2.1, EReal.coe_eq_zero, EReal.coe_eq_zero, mul_eq_zero]
  exact ⟨Or.inl, fun h => h.resolve_right hc.ne'⟩

/-- The two pick the same first place, -/
theorem first_iff [NeZero n] (hl : ∀ a, l a = 0 ∨ l a = 1) (k : Fin n) : IsFirst (pickK z l) k ↔ IsFirst (pickR z l) k := by
  classical
  by_cases hn : noneK z l
  · have hK : pickK z l = l := funext fun a => by rw [pickK, if_pos hn]
    have hR : pickR z l = l := funext fun a => by rw [pickR, if_pos ((none_iff z hl).mp hn)]
    rw [hK, hR]
  · obtain ⟨w, c, hc, h⟩ := weights z hl
    have hK : pickK z l = fun a => ((w a : ℝ) : EReal) := funext fun a => by rw [pickK, if_neg hn, (h a).2.1]
    have hR : pickR z l = fun a => ((w a * c : ℝ) : EReal) := funext fun a => by
      rw [pickR, if_neg (fun h' => hn ((none_iff z hl).mpr h')), (h a).2.2.1]
    rw [hK, hR]
    simp only [IsFirst, EReal.coe_le_coe_iff, EReal.coe_eq_coe_iff, mul_le_mul_iff_left₀ hc, mul_left_inj' hc.ne']

/-- and have the same logarithms, where the floor is the logarithm of the reference's floor. -/
theorem log_eq [NeZero n] (hl : ∀ a, l a = 0 ∨ l a = 1) (ep : ℝ) (hep : 0 < ep) (hep1 : ep ≤ 1) (a : Fin n) :
    logK z l ((Real.log ep : ℝ) : EReal) a = logR z l (ep : EReal) a := by
  classical
  obtain ⟨w, c, hc, h⟩ := weights z hl
  by_cases hn : noneK z l
  · have hn' := (none_iff z hl).mp hn
    have hK : pickK z l a = l a := by rw [pickK, if_pos hn]
    have hR : pickR z l a = l a := by rw [pickR, if_pos hn']
    rw [logK, logR, hK, hR, if_pos hn]
    rcases hl a with e | e
    · rw [e, if_neg (lt_irrefl _), if_neg (lt_irrefl _)]
    · have h1 : (0 : EReal) < 1 := zero_lt_one
      have hm : max (1 : EReal) (ep : EReal) = ((1 : ℝ) : EReal) := max_eq_left (EReal.coe_le_coe_iff.mpr hep1)
      rw [e, if_pos h1, if_pos h1, hm, log_coe_pos one_pos, Real.log_one, EReal.coe_zero]
  · have hn' : ¬ noneR z l := fun h' => hn ((none_iff z hl).mpr h')
    have hK : pickK z l a = ((w a : ℝ) : EReal) := by rw [pickK, if_neg hn, (h a).2.1]
    have hR : pickR z l a = ((w a * c : ℝ) : EReal) := by rw [pickR, if_neg hn', (h a).2.2.1]
    rw [logK, logR, hK, hR, if_neg hn]
    by_cases hw : 0 < w a
    · have hwc : 0 < w a * c := mul_pos hw hc
      rw [if_pos (EReal.coe_pos.mpr hw), if_pos (EReal.coe_pos.mpr hwc), ((h a).2.2.2 hw).2, log_coe_pos hwc]
      rw [← EReal.coe_strictMono.monotone.map_max, ← EReal.coe_strictMono.monotone.map_max, log_coe_pos (lt_max_of_lt_left hwc)]
      congr 1
      exact (Real.strictMonoOn_log.monotoneOn.map_max hwc hep).symm
    · have hw0 : w a = 0 := le_antisymm (not_lt.mp hw) (h a).1
      rw [hw0, zero_mul, EReal.coe_zero, if_neg (lt_irrefl _), if_neg (lt_irrefl _)]

end Cert.Proof.Row

end
-- ==== Proof.RefRun.lean ====
/- The reference's run. Its operations stand here in order, in stages; the stage that draws the noise is the line of
   Noise.lean. From any memory the run ends with every buffer holding what the operations leave there (`run_main`);
   each stage's result is read as a function of what the stage is given. -/
module

public import proofs.«01_k».proof.Proof.Noise
public import Idealize.ShloMosaic.Lib.Pipeline

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen
open Cert.Proof

variable {F : FTy → Type} [FloatOps F] [Named F]

section Stages

/-- The operations making the logits of the choice. -/
abbrev opsLogits : List (HloOp τ sig (Elt F)) :=
  [ binary main_arg0 main_arg4 main_v0 ((fun l r => Host.dotGeneral dot_S16384x480_S480x128_S16384x128_1_0_0_1_n_n none l r)),
    unary main_arg5 main_v1 (broadcastInDim S1x128 ![1] bcast_S128_S1x128_1),
    unary main_v1 main_v2 (broadcastInDim S16384x128 ![0, 1] bcast_S1x128_S16384x128_0_1),
    binary main_v0 main_v2 main_v3 (addf),
    nullary main_call0_cst (constant S_ .f32 0x00000000#32),
    unary main_call0_cst main_call0_v0 (broadcastInDim S16384x128 ![] bcast_S_S16384x128),
    binary main_v3 main_call0_v0 main_v4 maximumf,
    binary main_v4 main_arg6 main_v5 ((fun l r => Host.dotGeneral dot_S16384x128_S128x1000_S16384x1000_1_0_0_1_n_n none l r)),
    unary main_arg7 main_v6 (broadcastInDim S1x1000 ![1] bcast_S1000_S1x1000_1),
    unary main_v6 main_v7 (broadcastInDim S16384x1000 ![0, 1] bcast_S1x1000_S16384x1000_0_1),
    binary main_v5 main_v7 main_v8 (addf) ]

theorem opsLogits_sub : (opsLogits : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem opsLogits_keep (V : Valuation τ sig (Elt F)) {r : Ref sig .tc} (h : r ∉ ([main_v0, main_v1, main_v2, main_v3, main_call0_cst, main_call0_v0, main_v4, main_v5, main_v6, main_v7, main_v8] : List (Ref sig .tc))) :
    after opsLogits V (Proc.devRef .tc r) = V (Proc.devRef .tc r) :=
  after_of_writes_sub _ V (forall_writes_sub_of_map rfl) h

/-- The operations making their log-softmax. -/
abbrev opsLogp : List (HloOp τ sig (Elt F)) :=
  [ nullary main_call1_cst (constant S_ .f32 0xFF800000#32),
    binary main_v8 main_call1_cst main_call1_v0 (fun x v => Host.reduce FloatOps.maximumf x v reducesTo_S16384x1000_S16384_d1 h_S_),
    nullary main_call1_cst_0 (constant S_ .f32 0xFF800000#32),
    unary main_call1_cst_0 main_call1_v1 (broadcastInDim S16384 ![] bcast_S_S16384),
    binary main_call1_v1 main_call1_v0 main_call1_v2 maximumf,
    unary main_call1_v2 main_call1_v3 (broadcastInDim S16384x1 ![0] bcast_S16384_S16384x1_0),
    unary main_call1_v3 main_call1_v4 (broadcastInDim S16384x1000 ![0, 1] bcast_S16384x1_S16384x1000_0_1),
    binary main_v8 main_call1_v4 main_call1_v5 subf,
    unary main_call1_v5 main_call1_v6 Host.exp,
    nullary main_call1_cst_1 (constant S_ .f32 0x00000000#32),
    binary main_call1_v6 main_call1_cst_1 main_call1_v7 (fun x v => Host.reduceAdd x v reducesTo_S16384x1000_S16384_d1 h_S_),
    unary main_call1_v7 main_call1_v8 (broadcastInDim S16384x1 ![0] bcast_S16384_S16384x1_0),
    unary main_call1_v8 main_call1_v9 Host.log,
    unary main_call1_v9 main_call1_v10 (broadcastInDim S16384x1000 ![0, 1] bcast_S16384x1_S16384x1000_0_1),
    binary main_call1_v5 main_call1_v10 main_v9 subf ]

theorem opsLogp_sub : (opsLogp : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsLogp_keep (V : Valuation τ sig (Elt F)) {r : Ref sig .tc} (h : r ∉ ([main_call1_cst, main_call1_v0, main_call1_cst_0, main_call1_v1, main_call1_v2, main_call1_v3, main_call1_v4, main_call1_v5, main_call1_v6, main_call1_cst_1, main_call1_v7, main_call1_v8, main_call1_v9, main_call1_v10, main_v9] : List (Ref sig .tc))) :
    after opsLogp V (Proc.devRef .tc r) = V (Proc.devRef .tc r) :=
  after_of_writes_sub _ V (forall_writes_sub_of_map rfl) h

/-- The operations making the probabilities; what stands behind them here reaches no result. -/
abbrev opsProbs : List (HloOp τ sig (Elt F)) :=
  [ unary main_v9 main_v10 (Host.exp),
    unary main_v10 main_values ((fun x => (Host.topK S16384x4 1 (FloatOps.cmpfTotal .gt) x sliceFits_S16384x1000_S16384x4).1)),
    unary main_v10 main_indices ((fun x => (Host.topK S16384x4 1 (FloatOps.cmpfTotal .gt) x sliceFits_S16384x1000_S16384x4).2)),
    nullary main_cst (constant S_ .f32 0x00000000#32),
    unary main_cst main_v11 (broadcastInDim S16384x1000 ![] bcast_S_S16384x1000),
    nullary main_v12 (iotaInDim S16384 32 0),
    unary main_v12 main_v13 (broadcastInDim S16384x1 ![0] bcast_S16384_S16384x1_0),
    nullary main_c (constantI S_ 32 0#32),
    unary main_c main_v14 (broadcastInDim S16384x1 ![] bcast_S_S16384x1),
    binary main_v13 main_v14 main_v15 (cmpi .slt),
    nullary main_c_0 (constantI S_ 32 16384#32),
    unary main_c_0 main_v16 (broadcastInDim S16384x1 ![] bcast_S_S16384x1),
    binary main_v13 main_v16 main_v17 (addi),
    ternary main_v15 main_v17 main_v13 main_v18 (select),
    nullary main_c_1 (constantI S_ 32 0#32),
    unary main_c_1 main_v19 (broadcastInDim S16384x4 ![] bcast_S_S16384x4),
    binary main_indices main_v19 main_v20 (cmpi .slt),
    nullary main_c_2 (constantI S_ 32 1000#32),
    unary main_c_2 main_v21 (broadcastInDim S16384x4 ![] bcast_S_S16384x4),
    binary main_indices main_v21 main_v22 (addi),
    ternary main_v20 main_v22 main_indices main_v23 (select),
    unary main_v18 main_v24 (broadcastInDim S16384x4 ![0, 1] bcast_S16384x1_S16384x4_0_1),
    unary main_v24 main_v25 (broadcastInDim S16384x4x1 ![0, 1] bcast_S16384x4_S16384x4x1_0_1),
    unary main_v23 main_v26 (broadcastInDim S16384x4x1 ![0, 1] bcast_S16384x4_S16384x4x1_0_1),
    binary main_v25 main_v26 main_v27 ((fun a b => concatenate S16384x4x2 2 [⟨S16384x4x1, a⟩, ⟨S16384x4x1, b⟩] concatenates_S16384x4x1_S16384x4x1_S16384x4x2_d2)),
    nullary main_cst_3 (constant S_ .f32 0x3F800000#32),
    unary main_cst_3 main_v28 (broadcastInDim S16384x4 ![] bcast_S_S16384x4),
    ternary main_v11 main_v27 main_v28 main_v29 ((fun x i u => Host.scatter scatter_S16384x1000_S16384x4x2_S16384x4_n_01_01_2 (fun _ b => b) x i u)) ]

theorem opsProbs_sub : (opsProbs : List (HloOp τ sig (Elt F))).Forall fun op => op.bufs ⊆ tcRefs τ sig :=
  ⟨unary_bufs_sub .., unary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub ..⟩

theorem opsProbs_keep (V : Valuation τ sig (Elt F)) {r : Ref sig .tc} (h : r ∉ ([main_v10, main_values, main_indices, main_cst, main_v11, main_v12, main_v13, main_c, main_v14, main_v15, main_c_0, main_v16, main_v17, main_v18, main_c_1, main_v19, main_v20, main_c_2, main_v21, main_v22, main_v23, main_v24, main_v25, main_v26, main_v27, main_cst_3, main_v28, main_v29] : List (Ref sig .tc))) :
    after opsProbs V (Proc.devRef .tc r) = V (Proc.devRef .tc r) :=
  after_of_writes_sub _ V (forall_writes_sub_of_map rfl) h

/-- The operations making the legal probabilities, or the legality mask where none is left. -/
abbrev opsMasked : List (HloOp τ sig (Elt F)) :=
  [ binary main_v10 main_arg2 main_v30 (mulf),
    nullary main_cst_4 (constant S_ .f32 0x00000000#32),
    unary main_cst_4 main_v31 (broadcastInDim S16384x1000 ![] bcast_S_S16384x1000),
    binary main_v30 main_v31 main_v32 (cmpf .oeq),
    nullary main_c_5 (constantI S_ 1 1#1),
    binary main_v32 main_c_5 main_v33 ((fun x v => Host.reduce IntOp.andi x v reducesTo_S16384x1000_S16384_d1 h_S_)),
    unary main_v33 main_v34 (broadcastInDim S16384x1 ![0] bcast_S16384_S16384x1_0),
    unary main_v34 main_call2_v0 (broadcastInDim S16384x1000 ![0, 1] bcast_S16384x1_S16384x1000_0_1),
    ternary main_call2_v0 main_arg2 main_v30 main_v35 select ]

theorem opsMasked_sub : (opsMasked : List (HloOp τ sig (Elt F))).Forall fun op => op.bufs ⊆ tcRefs τ sig :=
  ⟨binary_bufs_sub .., nullary_bufs_sub .., unary_bufs_sub .., binary_bufs_sub .., nullary_bufs_sub .., binary_bufs_sub .., unary_bufs_sub .., unary_bufs_sub .., ternary_bufs_sub ..⟩

theorem opsMasked_keep (V : Valuation τ sig (Elt F)) {r : Ref sig .tc} (h : r ∉ ([main_v30, main_cst_4, main_v31, main_v32, main_c_5, main_v33, main_v34, main_call2_v0, main_v35] : List (Ref sig .tc))) :
    after opsMasked V (Proc.devRef .tc r) = V (Proc.devRef .tc r) :=
  after_of_writes_sub _ V (forall_writes_sub_of_map rfl) h

/-- The operations making the first action of the largest of them. -/
abbrev opsGreedy : List (HloOp τ sig (Elt F)) :=
  [ nullary main_call3_v0 (iotaInDim S16384x1000 32 1),
    nullary main_call3_cst (constant S_ .f32 0xFF800000#32),
    nullary main_call3_c (constantI S_ 32 0#32),
    quaternary main_v35 main_call3_v0 main_call3_cst main_call3_c main_call3_v1_0 (fun x y u v j => (Host.argReduce reducer_argmax_f32_i32 x y u v reducesTo_S16384x1000_S16384_d1 h_S_ j).1),
    quaternary main_v35 main_call3_v0 main_call3_cst main_call3_c main_v36 (fun x y u v j => (Host.argReduce reducer_argmax_f32_i32 x y u v reducesTo_S16384x1000_S16384_d1 h_S_ j).2) ]

theorem opsGreedy_sub : (opsGreedy : List (HloOp τ sig (Elt F))).Forall fun op => op.bufs ⊆ tcRefs τ sig :=
  ⟨nullary_bufs_sub .., nullary_bufs_sub .., nullary_bufs_sub .., quaternary_bufs_sub .., quaternary_bufs_sub ..⟩

theorem opsGreedy_keep (V : Valuation τ sig (Elt F)) {r : Ref sig .tc} (h : r ∉ ([main_call3_v0, main_call3_cst, main_call3_c, main_call3_v1_0, main_v36] : List (Ref sig .tc))) :
    after opsGreedy V (Proc.devRef .tc r) = V (Proc.devRef .tc r) :=
  after_of_writes_sub _ V (forall_writes_sub_of_map rfl) h

/-- The operations making their logarithms, floored, with minus infinity where there is no weight. -/
abbrev opsLogw : List (HloOp τ sig (Elt F)) :=
  [ nullary main_cst_6 (constant S_ .f32 0x00000000#32),
    unary main_cst_6 main_v37 (broadcastInDim S16384x1000 ![] bcast_S_S16384x1000),
    binary main_v35 main_v37 main_v38 (cmpf .ogt),
    nullary main_cst_7 (constant S_ .f32 0x0DA24260#32),
    unary main_cst_7 main_v39 (broadcastInDim S16384x1000 ![] bcast_S_S16384x1000),
    binary main_v35 main_v39 main_v40 (maximumf),
    unary main_v40 main_v41 (Host.log),
    nullary main_cst_8 (constant S_ .f32 0xFF800000#32),
    unary main_cst_8 main_call4_v0 id,
    unary main_call4_v0 main_call4_v1 (broadcastInDim S16384x1000 ![] bcast_S_S16384x1000),
    ternary main_v38 main_v41 main_call4_v1 main_v42 select ]

theorem opsLogw_sub : (opsLogw : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

theorem opsLogw_keep (V : Valuation τ sig (Elt F)) {r : Ref sig .tc} (h : r ∉ ([main_cst_6, main_v37, main_v38, main_cst_7, main_v39, main_v40, main_v41, main_cst_8, main_call4_v0, main_call4_v1, main_v42] : List (Ref sig .tc))) :
    after opsLogw V (Proc.devRef .tc r) = V (Proc.devRef .tc r) :=
  after_of_writes_sub _ V (forall_writes_sub_of_map rfl) h

/-- The operations making the key of the noise. -/
abbrev opsKey : List (HloOp τ sig (Elt F)) :=
  [ nullary main_c_9 (constantI S_ 32 42#32),
    nullary main_c_10 (constantI S_ 32 32#32),
    binary main_c_9 main_c_10 main_v43 (Host.shrui),
    unary main_v43 main_v44 (id),
    unary main_v44 main_v45 (broadcastInDim S1 ![] bcast_S_S1),
    nullary main_c_11 (constantI S_ 32 4294967295#32),
    binary main_c_9 main_c_11 main_v46 (andi),
    unary main_v46 main_v47 (id),
    unary main_v47 main_v48 (broadcastInDim S1 ![] bcast_S_S1),
    binary main_v45 main_v48 main_v49 ((fun a b => concatenate S2 0 [⟨S1, a⟩, ⟨S1, b⟩] concatenates_S1_S1_S2_d0)) ]

theorem opsKey_sub : (opsKey : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub ..⟩

theorem opsKey_keep (V : Valuation τ sig (Elt F)) {r : Ref sig .tc} (h : r ∉ ([main_c_9, main_c_10, main_v43, main_v44, main_v45, main_c_11, main_v46, main_v47, main_v48, main_v49] : List (Ref sig .tc))) :
    after opsKey V (Proc.devRef .tc r) = V (Proc.devRef .tc r) :=
  after_of_writes_sub _ V (forall_writes_sub_of_map rfl) h

/-- The operations making the first action of the largest noisy logarithm. -/
abbrev opsRand : List (HloOp τ sig (Elt F)) :=
  [ binary main_v50 main_v42 main_v51 (addf),
    nullary main_call6_v0 (iotaInDim S16384x1000 32 1),
    nullary main_call6_cst (constant S_ .f32 0xFF800000#32),
    nullary main_call6_c (constantI S_ 32 0#32),
    quaternary main_v51 main_call6_v0 main_call6_cst main_call6_c main_call6_v1_0 (fun x y u v j => (Host.argReduce reducer_argmax_f32_i32 x y u v reducesTo_S16384x1000_S16384_d1 h_S_ j).1),
    quaternary main_v51 main_call6_v0 main_call6_cst main_call6_c main_v52 (fun x y u v j => (Host.argReduce reducer_argmax_f32_i32 x y u v reducesTo_S16384x1000_S16384_d1 h_S_ j).2) ]

theorem opsRand_sub : (opsRand : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩

theorem opsRand_keep (V : Valuation τ sig (Elt F)) {r : Ref sig .tc} (h : r ∉ ([main_v51, main_call6_v0, main_call6_cst, main_call6_c, main_call6_v1_0, main_v52] : List (Ref sig .tc))) :
    after opsRand V (Proc.devRef .tc r) = V (Proc.devRef .tc r) :=
  after_of_writes_sub _ V (forall_writes_sub_of_map rfl) h

/-- The operations making the greedy action or the random one. -/
abbrev opsAction : List (HloOp τ sig (Elt F)) :=
  [ binary main_arg3 main_v36 main_v53 (muli),
    nullary main_c_12 (constantI S_ 32 1#32),
    unary main_c_12 main_v54 (broadcastInDim S16384 ![] bcast_S_S16384),
    binary main_v54 main_arg3 main_v55 (subi),
    binary main_v55 main_v52 main_v56 (muli),
    binary main_v53 main_v56 main_v57 (addi) ]

theorem opsAction_sub : (opsAction : List (HloOp τ sig (Elt F))).Forall fun op => op.bufs ⊆ tcRefs τ sig :=
  ⟨binary_bufs_sub .., nullary_bufs_sub .., unary_bufs_sub .., binary_bufs_sub .., binary_bufs_sub .., binary_bufs_sub ..⟩

theorem opsAction_keep (V : Valuation τ sig (Elt F)) {r : Ref sig .tc} (h : r ∉ ([main_v53, main_c_12, main_v54, main_v55, main_v56, main_v57] : List (Ref sig .tc))) :
    after opsAction V (Proc.devRef .tc r) = V (Proc.devRef .tc r) :=
  after_of_writes_sub _ V (forall_writes_sub_of_map rfl) h

/-- The operations making the values of the states. -/
abbrev opsValue : List (HloOp τ sig (Elt F)) :=
  [ binary main_arg1 main_arg8 main_v58 ((fun l r => Host.dotGeneral dot_S16384x480_S480x128_S16384x128_1_0_0_1_n_n none l r)),
    unary main_arg9 main_v59 (broadcastInDim S1x128 ![1] bcast_S128_S1x128_1),
    unary main_v59 main_v60 (broadcastInDim S16384x128 ![0, 1] bcast_S1x128_S16384x128_0_1),
    binary main_v58 main_v60 main_v61 (addf),
    nullary main_call7_cst (constant S_ .f32 0x00000000#32),
    unary main_call7_cst main_call7_v0 (broadcastInDim S16384x128 ![] bcast_S_S16384x128),
    binary main_v61 main_call7_v0 main_v62 maximumf,
    binary main_v62 main_arg10 main_v63 ((fun l r => Host.dotGeneral dot_S16384x128_S128x1_S16384x1_1_0_0_1_n_n none l r)),
    unary main_arg11 main_v64 (broadcastInDim S1x1 ![1] bcast_S1_S1x1_1),
    unary main_v64 main_v65 (broadcastInDim S16384x1 ![0, 1] bcast_S1x1_S16384x1_0_1),
    binary main_v63 main_v65 main_v66 (addf),
    reshape main_v66 main_v67 (rfl : (.f32 : EltTy) = .f32) shapeCasts_S16384x1_S16384 ]

theorem opsValue_sub : (opsValue : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem opsValue_keep (V : Valuation τ sig (Elt F)) {r : Ref sig .tc} (h : r ∉ ([main_v58, main_v59, main_v60, main_v61, main_call7_cst, main_call7_v0, main_v62, main_v63, main_v64, main_v65, main_v66, main_v67] : List (Ref sig .tc))) :
    after opsValue V (Proc.devRef .tc r) = V (Proc.devRef .tc r) :=
  after_of_writes_sub _ V (forall_writes_sub_of_map rfl) h
/-- All operations. -/
abbrev ops : List (HloOp τ sig (Elt F)) :=
  List.flatten [opsLogits, opsLogp, opsProbs, opsMasked, opsGreedy, opsLogw, opsKey, Noise.R.stretch, opsRand, opsAction, opsValue]

end Stages

/-- @main is the chain of the stages. -/
theorem main_chain (c : Dev nD) : main (F := F) c = (Pipeline.chain
    ([opsLogits, opsLogp, opsProbs, opsMasked, opsGreedy, opsLogw, opsKey, Noise.R.stretch, opsRand, opsAction, opsValue].map seq)
      : Prog (TpuEff nD τ sig (Elt F) (Pipeline.Sig Λ₀ (Fin 0) fun p => (pcfgs (F := F) p).Adm) .tc) PUnit) := by
  simp only [List.map_cons, List.map_nil]
  rewrite [chain_seq_cons, chain_seq_cons, chain_seq_cons, chain_seq_cons, chain_seq_cons, chain_seq_cons, chain_seq_cons,
    chain_seq_cons, chain_seq_cons, chain_seq_cons, chain_seq_cons]
  chain_rfl

/-- So it is the one line of all operations. -/
theorem main_eq (c : Dev nD) : main (F := F) c = seq ops := by
  rw [main_chain, ← List.append_nil (List.map seq _), chain_map_seq_append]
  simp only [Pipeline.chain, bind_pure_unit]

end Cert.Proof.Ref

end
-- ==== Proof.RefRead.lean ====
/- What the reference's run leaves: every argument as it was, and its three results as functions of the arguments and
   of the noise. -/
module

public import proofs.«01_k».proof.Proof.RefRun

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen
open Cert.Proof

variable {F : FTy → Type} [FloatOps F] [Named F]

/-- A line run over the end of another. -/
theorem after_append (l₁ l₂ : List (HloOp τ sig (Elt F))) (V : Valuation τ sig (Elt F)) :
    after (l₁ ++ l₂) V = after l₂ (after l₁ V) := by
  induction l₁ generalizing V with
  | nil => rfl
  | cons o l ih => exact ih _

section Noise

open Straight

/-- An operation of a table touches TensorCore buffers only, -/
theorem op_sub (φ : (i : Noise.Kind × ℕ) → TRef sig (Noise.Kind.ty i.1)) (s : Noise.Op F) :
    (Instr.op φ s : HloOp τ sig (Elt F)).bufs ⊆ tcRefs τ sig := by
  cases s with
  | nul d v => exact nullary_bufs_sub ..
  | un x d f => exact unary_bufs_sub ..
  | bin x y d f => exact binary_bufs_sub ..
  | rsh x d he hn => exact reshape_bufs_sub ..

/-- makes no buffer fresh, -/
theorem op_fresh (φ : (i : Noise.Kind × ℕ) → TRef sig (Noise.Kind.ty i.1)) (s : Noise.Op F) :
    (Instr.op φ s : HloOp τ sig (Elt F)).fresh = ∅ := by
  cases s <;> rfl

/-- and writes its value's buffer only. -/
theorem op_writes (φ : (i : Noise.Kind × ℕ) → TRef sig (Noise.Kind.ty i.1)) (s : Noise.Op F) :
    (Instr.op φ s : HloOp τ sig (Elt F)).writes = {Proc.devRef .tc (φ s.dst).ref} := by
  cases s <;> rfl

theorem noise_sub : (Noise.R.stretch : List (HloOp τ sig (Elt F))).Forall fun op => op.bufs ⊆ tcRefs τ sig := by
  rw [List.forall_iff_forall_mem]
  intro o ho
  obtain ⟨s, -, rfl⟩ := List.mem_map.mp ho
  exact op_sub _ s

theorem noise_keep (V : Valuation τ sig (Elt F)) {r : Ref sig .tc}
    (h : r ∉ (Noise.line (F := F)).map fun s => (Noise.R.bufs s.dst).ref) :
    after Noise.R.stretch V (Proc.devRef .tc r) = V (Proc.devRef .tc r) := by
  refine after_of_writes_sub _ V (forall_writes_sub_of_map (W := (Noise.line (F := F)).map fun s => (Noise.R.bufs s.dst).ref) ?_) h
  rw [List.map_map, List.map_map]
  exact List.map_congr_left fun s _ => op_writes _ s

/-- The values the line makes, as numbers. -/
def made : List (Noise.Kind × ℕ) := (Noise.line (F := Ideal)).map Instr.dst

theorem made_eq : (Noise.line (F := F)).map (fun s => (Noise.R.bufs s.dst).ref) = made.map fun i => (Noise.R.bufs i).ref := by
  rw [made, List.map_map]
  rfl

end Noise

/-- Every operation touches TensorCore references only. -/
theorem ops_sub : (ops : List (HloOp τ sig (Elt F))).Forall fun op => op.bufs ⊆ tcRefs τ sig := by
  have h := fun (l : List (HloOp τ sig (Elt F))) => List.forall_iff_forall_mem (p := fun op : HloOp τ sig (Elt F) => op.bufs ⊆ tcRefs τ sig) (l := l)
  rw [h]
  intro o ho
  simp only [ops, List.mem_flatten] at ho
  obtain ⟨l, hl, ho⟩ := ho
  revert o
  rw [← h]
  simp only [List.mem_cons, List.not_mem_nil, or_false] at hl
  rcases hl with rfl | rfl | rfl | rfl | rfl | rfl | rfl | rfl | rfl | rfl | rfl
  exacts [opsLogits_sub, opsLogp_sub, opsProbs_sub, opsMasked_sub, opsGreedy_sub, opsLogw_sub, opsKey_sub, noise_sub,
    opsRand_sub, opsAction_sub, opsValue_sub]

theorem fresh_all {l : List (HloOp τ sig (Elt F))} (h : l.map HloOp.fresh = l.map fun _ => (∅ : Finset (DevRef τ sig))) :
    ∀ o ∈ l, o.fresh = ∅ := List.forall_iff_forall_mem.mp (forall_fresh_of_map h)

/-- None makes a buffer fresh. -/
theorem ops_fresh : ∀ o ∈ (ops : List (HloOp τ sig (Elt F))), o.fresh = ∅ := by
  intro o ho
  simp only [ops, List.mem_flatten] at ho
  obtain ⟨l, hl, ho⟩ := ho
  revert o
  simp only [List.mem_cons, List.not_mem_nil, or_false] at hl
  rcases hl with rfl | rfl | rfl | rfl | rfl | rfl | rfl | rfl | rfl | rfl | rfl
  case inr.inr.inr.inr.inr.inr.inr.inl =>
    intro o ho
    obtain ⟨s, -, rfl⟩ := List.mem_map.mp ho
    exact op_fresh _ s
  all_goals exact fresh_all rfl

/-- Nothing is scoped on this signature. -/
theorem scopedRefs_eq : (Finset.univ.filter fun b : Ref sig .tc => b.isScoped) = ∅ := by decide +kernel
theorem scopedSems_eq : (Finset.univ.filter fun sm : SemLoc sig => sm.isScoped .tc) = ∅ := by decide

/-- From any memory with zero counters, every weakly fair execution ends, each buffer at what the operations leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The stages before the noise, in one; and after. -/
abbrev opening (V : Valuation τ sig (Elt F)) : Valuation τ sig (Elt F) :=
  after opsKey (after opsLogw (after opsGreedy (after opsMasked (after opsProbs (after opsLogp (after opsLogits V))))))
abbrev closing (V : Valuation τ sig (Elt F)) : Valuation τ sig (Elt F) :=
  after opsValue (after opsAction (after opsRand V))

theorem after_ops (V : Valuation τ sig (Elt F)) : after ops V = closing (after Noise.R.stretch (opening V)) := by
  simp only [ops, List.flatten_cons, List.flatten_nil, List.append_nil, after_append]

/-! ## The stages' results -/

/-- The logits of the choice. -/
def logits (a0 : FVec F S16384x480 .f32) (a4 : FVec F S480x128 .f32)
    (a5 : FVec F S128 .f32) (a6 : FVec F S128x1000 .f32)
    (a7 : FVec F S1000 .f32) : FVec F S16384x1000 .f32 :=
  addf (Host.dotGeneral dot_S16384x128_S128x1000_S16384x1000_1_0_0_1_n_n none
      (maximumf (addf (Host.dotGeneral dot_S16384x480_S480x128_S16384x128_1_0_0_1_n_n none a0 a4)
        (broadcastInDim S16384x128 ![0, 1] bcast_S1x128_S16384x128_0_1 (broadcastInDim S1x128 ![1] bcast_S128_S1x128_1 a5)))
        (broadcastInDim S16384x128 ![] bcast_S_S16384x128 (constant S_ .f32 0x00000000#32))) a6)
    (broadcastInDim S16384x1000 ![0, 1] bcast_S1x1000_S16384x1000_0_1 (broadcastInDim S1x1000 ![1] bcast_S1000_S1x1000_1 a7))

theorem logits_eq (V : Valuation τ sig (Elt F)) :
    after opsLogits V (Proc.devRef .tc main_v8) = logits (V (Proc.devRef .tc main_arg0)) (V (Proc.devRef .tc main_arg4))
      (V (Proc.devRef .tc main_arg5)) (V (Proc.devRef .tc main_arg6)) (V (Proc.devRef .tc main_arg7)) := by
  after_results
  rfl

/-- The values of the states. -/
def values (a1 : FVec F S16384x480 .f32) (a8 : FVec F S480x128 .f32)
    (a9 : FVec F S128 .f32) (a10 : FVec F S128x1 .f32)
    (a11 : FVec F S1 .f32) : FVec F S16384 .f32 :=
  shapeCast S16384 (addf (Host.dotGeneral dot_S16384x128_S128x1_S16384x1_1_0_0_1_n_n none
      (maximumf (addf (Host.dotGeneral dot_S16384x480_S480x128_S16384x128_1_0_0_1_n_n none a1 a8)
        (broadcastInDim S16384x128 ![0, 1] bcast_S1x128_S16384x128_0_1 (broadcastInDim S1x128 ![1] bcast_S128_S1x128_1 a9)))
        (broadcastInDim S16384x128 ![] bcast_S_S16384x128 (constant S_ .f32 0x00000000#32))) a10)
    (broadcastInDim S16384x1 ![0, 1] bcast_S1x1_S16384x1_0_1 (broadcastInDim S1x1 ![1] bcast_S1_S1x1_1 a11)))
    shapeCasts_S16384x1_S16384

theorem values_eq (V : Valuation τ sig (Elt F)) :
    after opsValue V (Proc.devRef .tc main_v67) = values (V (Proc.devRef .tc main_arg1)) (V (Proc.devRef .tc main_arg8))
      (V (Proc.devRef .tc main_arg9)) (V (Proc.devRef .tc main_arg10)) (V (Proc.devRef .tc main_arg11)) := by
  after_results
  rfl

/-- A row's largest logit, in every place of the row; the logits less it; and the log-softmax. -/
def top (x : FVec F S16384x1000 .f32) : FVec F S16384x1000 .f32 :=
  broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x1000_S16384_d1 h_S_)))
@[inherit_doc top]
def logp (x : FVec F S16384x1000 .f32) : FVec F S16384x1000 .f32 :=
  subf (subf x (top x))
    (broadcastInDim S16384x1000 ![0, 1] bcast_S16384x1_S16384x1000_0_1 (Host.log (broadcastInDim S16384x1 ![0] bcast_S16384_S16384x1_0
      (Host.reduceAdd (Host.exp (subf x (top x))) (constant S_ .f32 0x00000000#32) reducesTo_S16384x1000_S16384_d1 h_S_))))

theorem logp_eq (V : Valuation τ sig (Elt F)) :
    after opsLogp V (Proc.devRef .tc main_v9) = logp (V (Proc.devRef .tc main_v8)) := by
  after_results
  rfl

theorem probs_eq (V : Valuation τ sig (Elt F)) :
    after opsProbs V (Proc.devRef .tc main_v10) = Host.exp (V (Proc.devRef .tc main_v9)) := by
  rw [after_cons, after_of_writes_sub _ _ (forall_writes_sub_of_map rfl) (W := [main_values, main_indices, main_cst, main_v11, main_v12, main_v13, main_c, main_v14, main_v15, main_c_0, main_v16, main_v17, main_v18, main_c_1, main_v19, main_v20, main_c_2, main_v21, main_v22, main_v23, main_v24, main_v25, main_v26, main_v27, main_cst_3, main_v28, main_v29]) (by decide)]
  exact unary_result ..

/-- The legal probabilities, or the legality mask in a row that has none left. -/
def masked (p l : FVec F S16384x1000 .f32) : FVec F S16384x1000 .f32 :=
  select (broadcastInDim S16384x1000 ![0, 1] bcast_S16384x1_S16384x1000_0_1 (broadcastInDim S16384x1 ![0] bcast_S16384_S16384x1_0
      (Host.reduce IntOp.andi (cmpf .oeq (mulf p l) (broadcastInDim S16384x1000 ![] bcast_S_S16384x1000 (constant S_ .f32 0x00000000#32)))
        (constantI S_ 1 1#1) reducesTo_S16384x1000_S16384_d1 h_S_)))
    l (mulf p l)

theorem masked_eq (V : Valuation τ sig (Elt F)) :
    after opsMasked V (Proc.devRef .tc main_v35) = masked (V (Proc.devRef .tc main_v10)) (V (Proc.devRef .tc main_arg2)) := by
  after_results
  rfl

/-- The first place of a row's largest entry. -/
def first (x : FVec F S16384x1000 .f32) : IVec S16384 32 :=
  fun j => (Host.argReduce reducer_argmax_f32_i32 x (iotaInDim S16384x1000 32 1) (constant S_ .f32 0xFF800000#32) (constantI S_ 32 0#32)
    reducesTo_S16384x1000_S16384_d1 h_S_ j).2

theorem greedy_eq (V : Valuation τ sig (Elt F)) :
    after opsGreedy V (Proc.devRef .tc main_v36) = first (V (Proc.devRef .tc main_v35)) := by
  after_results
  rfl

/-- The floored logarithms of the weights, with minus infinity where there is none. -/
def logw (x : FVec F S16384x1000 .f32) : FVec F S16384x1000 .f32 :=
  select (cmpf .ogt x (broadcastInDim S16384x1000 ![] bcast_S_S16384x1000 (constant S_ .f32 0x00000000#32)))
    (Host.log (maximumf x (broadcastInDim S16384x1000 ![] bcast_S_S16384x1000 (constant S_ .f32 0x0DA24260#32))))
    (broadcastInDim S16384x1000 ![] bcast_S_S16384x1000 (constant S_ .f32 0xFF800000#32))

theorem logw_eq (V : Valuation τ sig (Elt F)) :
    after opsLogw V (Proc.devRef .tc main_v42) = logw (V (Proc.devRef .tc main_v35)) := by
  after_results
  rfl

theorem rand_eq (V : Valuation τ sig (Elt F)) :
    after opsRand V (Proc.devRef .tc main_v52) = first (addf (V (Proc.devRef .tc main_v50)) (V (Proc.devRef .tc main_v42))) := by
  after_results
  rfl

/-- The greedy action where the flag is one, the random one where it is zero. -/
def action (g a b : IVec S16384 32) : IVec S16384 32 :=
  addi (muli g a) (muli (subi (broadcastInDim S16384 ![] bcast_S_S16384 (constantI S_ 32 1#32)) g) b)

theorem action_eq (V : Valuation τ sig (Elt F)) :
    after opsAction V (Proc.devRef .tc main_v57) = action (V (Proc.devRef .tc main_arg3)) (V (Proc.devRef .tc main_v36))
      (V (Proc.devRef .tc main_v52)) := by
  after_results
  rfl

/-! ## What the whole run leaves -/

/-- The reference's arguments. -/
abbrev args : List (Ref sig .tc) :=
  [main_arg0, main_arg1, main_arg2, main_arg3, main_arg4, main_arg5, main_arg6, main_arg7, main_arg8, main_arg9, main_arg10, main_arg11]

theorem made_off : ∀ r ∈ (main_v9 :: main_v36 :: main_v42 :: args), r ∉ made.map fun i => (Noise.R.bufs i).ref := by decide +kernel

theorem noise_off (V : Valuation τ sig (Elt F)) {r : Ref sig .tc} (h : r ∈ main_v9 :: main_v36 :: main_v42 :: args) :
    after Noise.R.stretch V (Proc.devRef .tc r) = V (Proc.devRef .tc r) :=
  noise_keep V (by rw [made_eq]; exact made_off r h)

/-- The stages before the noise keep the arguments, -/
theorem opening_keep (V : Valuation τ sig (Elt F)) {r : Ref sig .tc} (h : r ∈ args) :
    opening V (Proc.devRef .tc r) = V (Proc.devRef .tc r) := by
  rw [opening, opsKey_keep _ (by revert r; decide +kernel), opsLogw_keep _ (by revert r; decide +kernel),
    opsGreedy_keep _ (by revert r; decide +kernel), opsMasked_keep _ (by revert r; decide +kernel),
    opsProbs_keep _ (by revert r; decide +kernel), opsLogp_keep _ (by revert r; decide +kernel),
    opsLogits_keep _ (by revert r; decide +kernel)]

/-- and so does the run. -/
theorem ops_keep (V : Valuation τ sig (Elt F)) {r : Ref sig .tc} (h : r ∈ args) :
    after ops V (Proc.devRef .tc r) = V (Proc.devRef .tc r) := by
  rw [after_ops, closing, opsValue_keep _ (by revert r; decide +kernel), opsAction_keep _ (by revert r; decide +kernel),
    opsRand_keep _ (by revert r; decide +kernel), noise_off _ (List.mem_cons_of_mem _ (List.mem_cons_of_mem _ (List.mem_cons_of_mem _ h))),
    opening_keep V h]

variable (V : Valuation τ sig (Elt F))

/-- The log-probabilities, as a function of the arguments. -/
abbrev outLogp : FVec F S16384x1000 .f32 :=
  logp (logits (V (Proc.devRef .tc main_arg0)) (V (Proc.devRef .tc main_arg4)) (V (Proc.devRef .tc main_arg5))
    (V (Proc.devRef .tc main_arg6)) (V (Proc.devRef .tc main_arg7)))

theorem logp_mid : after opsLogp (after opsLogits V) (Proc.devRef .tc main_v9) = outLogp V := by
  rw [logp_eq, logits_eq]

/-- The second result. -/
theorem out_logp : after ops V (Proc.devRef .tc main_v9) = outLogp V := by
  rw [after_ops, closing, opsValue_keep _ (by decide +kernel), opsAction_keep _ (by decide +kernel), opsRand_keep _ (by decide +kernel),
    noise_off _ (by decide), opening, opsKey_keep _ (by decide +kernel), opsLogw_keep _ (by decide +kernel),
    opsGreedy_keep _ (by decide +kernel), opsMasked_keep _ (by decide +kernel), opsProbs_keep _ (by decide +kernel), logp_mid]

/-- The third result. -/
theorem out_values : after ops V (Proc.devRef .tc main_v67) = values (V (Proc.devRef .tc main_arg1)) (V (Proc.devRef .tc main_arg8))
    (V (Proc.devRef .tc main_arg9)) (V (Proc.devRef .tc main_arg10)) (V (Proc.devRef .tc main_arg11)) := by
  have h : ∀ {r : Ref sig .tc}, r ∈ args → after opsAction (after opsRand (after Noise.R.stretch (opening V))) (Proc.devRef .tc r)
      = V (Proc.devRef .tc r) := by
    intro r h
    rw [opsAction_keep _ (by revert r; decide +kernel),
      opsRand_keep _ (by revert r; decide +kernel), noise_off _ (List.mem_cons_of_mem _ (List.mem_cons_of_mem _ (List.mem_cons_of_mem _ h))),
      opening_keep V h]
  rw [after_ops, closing, values_eq, h (by decide), h (by decide), h (by decide), h (by decide), h (by decide)]

/-- The weights of the choice: the masked probabilities. -/
abbrev outMasked : FVec F S16384x1000 .f32 :=
  masked (Host.exp (outLogp V)) (V (Proc.devRef .tc main_arg2))

theorem masked_mid : after opsMasked (after opsProbs (after opsLogp (after opsLogits V))) (Proc.devRef .tc main_v35) = outMasked V := by
  rw [masked_eq, probs_eq, logp_mid, opsProbs_keep _ (by decide +kernel), opsLogp_keep _ (by decide +kernel), opsLogits_keep _ (by decide +kernel)]

/-- The noise the run draws. -/
abbrev noise : FVec F S16384x1000 .f32 :=
  after Noise.R.stretch (opening V) (Proc.devRef .tc main_v50)

/-- The first result. -/
theorem out_action : after ops V (Proc.devRef .tc main_v57) =
    action (V (Proc.devRef .tc main_arg3)) (first (outMasked V)) (first (addf (noise V) (logw (outMasked V)))) := by
  have h36 : opening V (Proc.devRef .tc main_v36) = first (outMasked V) := by
    rw [opening, opsKey_keep _ (by decide +kernel), opsLogw_keep _ (by decide +kernel), greedy_eq, masked_mid]
  have h42 : opening V (Proc.devRef .tc main_v42) = logw (outMasked V) := by
    rw [opening, opsKey_keep _ (by decide +kernel), logw_eq, opsGreedy_keep _ (by decide +kernel), masked_mid]
  rw [after_ops, closing, opsValue_keep _ (by decide +kernel), action_eq, rand_eq, opsRand_keep _ (by decide +kernel), opsRand_keep _ (by decide +kernel),
    noise_off _ (r := main_arg3) (by decide), noise_off _ (r := main_v36) (by decide),
    noise_off _ (r := main_v42) (by decide), h36, h42, opening_keep V (by decide)]

/-- The key of the noise: the two words 0 and 42. -/
theorem key_eq : after opsKey V (Proc.devRef .tc main_v49) =
    concatenate S2 0 [⟨S1, broadcastInDim S1 ![] bcast_S_S1 (Host.shrui (constantI S_ 32 42#32) (constantI S_ 32 32#32))⟩,
      ⟨S1, broadcastInDim S1 ![] bcast_S_S1 (andi (constantI S_ 32 42#32) (constantI S_ 32 4294967295#32))⟩] concatenates_S1_S1_S2_d0 := by
  after_results
  rfl

end Cert.Proof.Ref

end
-- ==== Proof.First.lean ====
/- The place of a row's first largest entry, as the kernel finds it (the least place among those that equal the
   largest) and as the reference does (one pass that keeps the better of two pairs). -/
module

public import proofs.«01_k».proof.Proof.Row
public import proofs.«01_k».proof.Proof.RefRead

@[expose] public section

set_option maxRecDepth 16384

noncomputable section

namespace Cert.Proof.First

open Idealize.ShloMosaic
open Cert.ReferenceIdeal Cert.ReferenceIdeal.Gen
open Cert.Proof.Row

theorem toInt_small {k : ℕ} (h : k ≤ 1000) : (BitVec.ofNat 32 k).toInt = k := by
  rw [BitVec.toInt_ofNat']
  exact Int.bmod_eq_of_le (by omega) (by omega)

theorem minsi_toInt (x y : BitVec 32) : (IntOp.minsi x y).toInt = min x.toInt y.toInt := by
  unfold IntOp.minsi
  by_cases h : x.slt y = true
  · rw [if_pos h]
    rw [BitVec.slt_iff_toInt_lt] at h
    exact (min_eq_left h.le).symm
  · rw [if_neg h]
    rw [BitVec.slt_iff_toInt_lt] at h
    exact (min_eq_right (not_lt.mp h)).symm

open Classical in
/-- The kernel's: the least place among those of a largest entry. -/
theorem least_place {z : Fin 1000 → EReal} {k : Fin 1000} (h : IsFirst z k) :
    (Finset.univ.fold IntOp.minsi 2147483647#32 fun a : Fin 1000 => if z a = top z then BitVec.ofNat 32 a.val else 1000#32)
      = BitVec.ofNat 32 k.val := by
  apply BitVec.eq_of_toInt_eq
  rw [← Finset.fold_hom (op := IntOp.minsi) (op' := min) (m := BitVec.toInt) minsi_toInt, toInt_small (show k.val ≤ 1000 by omega)]
  have e : ∀ a : Fin 1000, (if z a = top z then BitVec.ofNat 32 a.val else 1000#32).toInt = if z a = top z then (a.val : ℤ) else 1000 := by
    intro a
    split
    · exact toInt_small (by omega)
    · rfl
  simp only [e]
  apply le_antisymm
  · exact (Finset.fold_min_le _).mpr (Or.inr ⟨k, Finset.mem_univ k, by rw [if_pos h.eq_top]⟩)
  · refine (Finset.le_fold_min _).mpr ⟨?_, fun a _ => ?_⟩
    · show ((k.val : ℕ) : ℤ) ≤ 2147483647
      omega
    · split
      · next ha =>
        have := h.2 a (ha.trans h.eq_top.symm)
        exact Int.ofNat_le.mpr this
      · have := k.isLt
        omega

/-- A pair that is worse than another: of a smaller entry, or of an equal one at a later place. -/
def Worse (q p : EReal × BitVec 32) : Prop := q.1 < p.1 ∨ (q.1 = p.1 ∧ p.2.toInt < q.2.toInt)

/-- The reference's reducer. -/
abbrev better (a b : EReal × BitVec 32) : EReal × BitVec 32 := reducer_argmax_f32_i32 (F := Ideal) a b

open Classical in
theorem better_eq (a b : EReal × BitVec 32) : better a b
    = (if b.1 < a.1 then a.1 else b.1, if b.1 < a.1 ∨ (a.1 = b.1 ∧ a.2.toInt < b.2.toInt) then a.2 else b.2) := by
  have hs : a.2.slt b.2 = decide (a.2.toInt < b.2.toInt) := by
    by_cases h : a.2.toInt < b.2.toInt
    · rw [decide_eq_true h]; exact BitVec.slt_iff_toInt_lt.mpr h
    · rw [decide_eq_false h]; exact Bool.eq_false_iff.mpr fun h' => h (BitVec.slt_iff_toInt_lt.mp h')
  have key : ∀ d₁ d₂ d₃ d₄ : Bool, decide (b.1 < a.1) = d₁ → decide (a.1 ≠ a.1) = d₂ → decide (a.1 = b.1) = d₃ → a.2.slt b.2 = d₄ →
      better a b = (Scalar.select (IntOp.ori (BitVec.ofBool d₁) (BitVec.ofBool d₂)) a.1 b.1,
        Scalar.select (IntOp.ori (IntOp.ori (BitVec.ofBool d₁) (BitVec.ofBool d₂)) (IntOp.andi (BitVec.ofBool d₃) (BitVec.ofBool d₄))) a.2 b.2) := by
    rintro _ _ _ _ rfl rfl rfl rfl
    rfl
  have hne : decide (a.1 ≠ a.1) = false := decide_eq_false fun h => h rfl
  by_cases h1 : b.1 < a.1
  · by_cases h2 : a.1 = b.1
    · exact absurd h1 (by rw [h2]; exact lt_irrefl _)
    · by_cases h3 : a.2.toInt < b.2.toInt
      · rw [key _ _ _ _ (decide_eq_true h1) hne (decide_eq_false h2) (hs.trans (decide_eq_true h3)), if_pos h1, if_pos (Or.inl h1)]; rfl
      · rw [key _ _ _ _ (decide_eq_true h1) hne (decide_eq_false h2) (hs.trans (decide_eq_false h3)), if_pos h1, if_pos (Or.inl h1)]; rfl
  · by_cases h2 : a.1 = b.1
    · by_cases h3 : a.2.toInt < b.2.toInt
      · rw [key _ _ _ _ (decide_eq_false h1) hne (decide_eq_true h2) (hs.trans (decide_eq_true h3)), if_neg h1, if_pos (Or.inr ⟨h2, h3⟩)]; rfl
      · rw [key _ _ _ _ (decide_eq_false h1) hne (decide_eq_true h2) (hs.trans (decide_eq_false h3)), if_neg h1,
          if_neg (fun h => h.elim h1 fun h => h3 h.2)]; rfl
    · by_cases h3 : a.2.toInt < b.2.toInt
      · rw [key _ _ _ _ (decide_eq_false h1) hne (decide_eq_false h2) (hs.trans (decide_eq_true h3)), if_neg h1,
          if_neg (fun h => h.elim h1 fun h => h2 h.1)]; rfl
      · rw [key _ _ _ _ (decide_eq_false h1) hne (decide_eq_false h2) (hs.trans (decide_eq_false h3)), if_neg h1,
          if_neg (fun h => h.elim h1 fun h => h3 h.2)]; rfl

theorem better_left {p q : EReal × BitVec 32} (h : q = p ∨ Worse q p) : better p q = p := by
  rw [better_eq]
  rcases h with rfl | h | ⟨h1, h2⟩
  · simp
  · simp [h]
  · simp [h1, h2]

theorem better_right {p q : EReal × BitVec 32} (h : q = p ∨ Worse q p) : better q p = p := by
  rw [better_eq]
  rcases h with rfl | h | ⟨h1, h2⟩
  · simp
  · simp [not_lt.mpr h.le, h.ne]
  · simp [h1, not_lt.mpr h2.le]

theorem better_or (a b : EReal × BitVec 32) : better a b = a ∨ better a b = b := by
  rw [better_eq]
  by_cases h1 : b.1 < a.1
  · simp [h1]
  · by_cases h2 : a.1 = b.1 ∧ a.2.toInt < b.2.toInt
    · left; ext <;> simp [h2]
    · right; simp [h1, h2]

/-- One pass over a list from a pair finds the best of them. -/
theorem pass {p : EReal × BitVec 32} (L : List (EReal × BitVec 32)) (c : EReal × BitVec 32)
    (hc : c = p ∨ Worse c p) (hL : ∀ q ∈ L, q = p ∨ Worse q p) (hp : p = c ∨ p ∈ L) : L.foldl better c = p := by
  induction L generalizing c with
  | nil => exact (hp.resolve_right (by simp)).symm
  | cons x L ih =>
    have hx := hL x (by simp)
    have hL' : ∀ q ∈ L, q = p ∨ Worse q p := fun q hq => hL q (by simp [hq])
    refine ih (better c x) ?_ hL' ?_
    · rcases better_or c x with h | h <;> rw [h] <;> assumption
    · rcases hp with rfl | hp
      · exact Or.inl (better_left hx).symm
      · rcases List.mem_cons.mp hp with rfl | hp
        · exact Or.inl (better_right hc).symm
        · exact Or.inr hp

/-- So it finds the first largest entry of a row, whatever the order of the list. -/
theorem pass_row {z : Fin 1000 → EReal} {k : Fin 1000} (h : IsFirst z k) (L : List (EReal × BitVec 32))
    (hmem : ∀ q, q ∈ L ↔ ∃ a : Fin 1000, q = (z a, BitVec.ofNat 32 a.val)) :
    (L.foldl better (⊥, 0#32)).2 = BitVec.ofNat 32 k.val := by
  have hbest : ∀ a : Fin 1000, ((z a, BitVec.ofNat 32 a.val) : EReal × BitVec 32) = (z k, BitVec.ofNat 32 k.val)
      ∨ Worse (z a, BitVec.ofNat 32 a.val) (z k, BitVec.ofNat 32 k.val) := by
    intro a
    rcases lt_or_eq_of_le (h.1 a) with hlt | heq
    · exact Or.inr (Or.inl hlt)
    · rcases lt_or_eq_of_le (h.2 a heq) with hlt | rfl
      · refine Or.inr (Or.inr ⟨heq, ?_⟩)
        show (BitVec.ofNat 32 k.val).toInt < (BitVec.ofNat 32 a.val).toInt
        rw [toInt_small (by omega), toInt_small (by omega)]
        exact Int.ofNat_lt.mpr hlt
      · exact Or.inl rfl
  have hk0 : z k = ⊥ → k = 0 := by
    intro hb
    have h0 : z 0 = z k := le_antisymm (h.1 0) (by rw [hb]; exact bot_le)
    exact le_antisymm (h.2 0 h0) (Fin.zero_le _)
  refine congrArg Prod.snd (pass (p := (z k, BitVec.ofNat 32 k.val)) L _ ?_ ?_ ?_)
  · by_cases hb : z k = ⊥
    · have e := hk0 hb
      subst e
      rw [hb]
      exact Or.inl rfl
    · exact Or.inr (Or.inl (bot_lt_iff_ne_bot.mpr hb))
  · intro q hq
    obtain ⟨a, rfl⟩ := (hmem q).mp hq
    exact hbest a
  · exact Or.inr ((hmem _).mpr ⟨k, rfl⟩)

/-- The rows of the reference's tables. -/
theorem reds : Shape.Reduces S16384x1000 [1] S16384 := by decide

theorem lift_eq (r : Fin 16384) (a : Fin (S16384x1000.size 1)) : reds.lift (ix1 r) a = (ix2 r a : S16384x1000.Idx) := by
  funext c
  apply Fin.ext
  fin_cases c <;> rfl

theorem mem_fiber (x : S16384x1000.Idx → EReal) (y : S16384x1000.Idx → BitVec 32) (r : Fin 16384) (q : EReal × BitVec 32) :
    q ∈ Host.argReduceFiber x y reducesTo_S16384x1000_S16384_d1 (ix1 r)
      ↔ ∃ a : Fin (S16384x1000.size 1), q = (x (ix2 r a), y (ix2 r a)) := by
  rw [Host.argReduceFiber, Shape.ReducesTo.drop_eq_drop reducesTo_S16384x1000_S16384_d1 reds, List.mem_map]
  constructor
  · rintro ⟨m, hm, rfl⟩
    have hd : reds.drop (S16384x1000.rowMajor.symm m) = ix1 r := of_decide_eq_true (List.mem_filter.mp hm).2
    clear hm
    generalize S16384x1000.rowMajor.symm m = i at hd ⊢
    refine ⟨i 1, ?_⟩
    have hl := reds.lift_drop i
    rw [hd, lift_eq] at hl
    rw [hl]
  · rintro ⟨a, rfl⟩
    refine ⟨S16384x1000.rowMajor (ix2 r a), ?_, ?_⟩
    · rw [List.mem_filter]
      refine ⟨List.mem_finRange _, ?_⟩
      rw [Equiv.symm_apply_apply, ← lift_eq, reds.drop_lift]
      exact decide_eq_true rfl
    · rw [Equiv.symm_apply_apply]

theorem neg_inf : (FloatOps.ofBits .f32 0xFF800000#32 : Ideal .f32) = (⊥ : EReal) := by
  show Ideal.ofBits .f32 0xFF800000#32 = ⊥
  simp [Ideal.ofBits, Ideal.ieee]

/-- The second entries of a table of pairs. -/
def seconds (f : S16384.Idx → EReal × BitVec 32) : IVec S16384 32 := fun j => (f j).2

theorem first_seconds (x : FVec Ideal S16384x1000 .f32) : Ref.first (F := Ideal) x
    = seconds (Host.argReduce (reducer_argmax_f32_i32 (F := Ideal)) x (iotaInDim S16384x1000 32 1)
        (constant S_ .f32 0xFF800000#32) (constantI S_ 32 0#32) reducesTo_S16384x1000_S16384_d1 h_S_) := rfl

theorem pass_fun (x : FVec Ideal S16384x1000 .f32) :
    Host.reduce2 (reducer_argmax_f32_i32 (F := Ideal)) x (iotaInDim S16384x1000 32 1)
        (constant S_ .f32 0xFF800000#32) (constantI S_ 32 0#32) reducesTo_S16384x1000_S16384_d1 h_S_
      = fun j => (Host.argReduceFiber x (iotaInDim S16384x1000 32 1) reducesTo_S16384x1000_S16384_d1 j).foldl better
        ((constant S_ .f32 0xFF800000#32 : FVec Ideal S_ .f32) (Shape.Idx.first h_S_), constantI S_ 32 0#32 (Shape.Idx.first h_S_)) := by
  funext j
  exact Host.reduce2_eq_foldl_fiber _ _ _ _ _ _ _ _

theorem seconds_of (f : S16384.Idx → EReal × BitVec 32) (r : Fin 16384) (L : List (EReal × BitVec 32)) (c : EReal × BitVec 32)
    (hf : f (ix1 r) = L.foldl better c) (hc : c = (⊥, 0#32)) {z : Fin 1000 → EReal} {k : Fin 1000} (h : IsFirst z k)
    (hmem : ∀ q, q ∈ L ↔ ∃ a : Fin 1000, q = (z a, BitVec.ofNat 32 a.val)) : seconds f (ix1 r) = BitVec.ofNat 32 k.val := by
  subst hc
  unfold seconds
  rw [hf]
  exact pass_row h L hmem

theorem first_eq (x : FVec Ideal S16384x1000 .f32) (r : Fin 16384) {k : Fin 1000} (h : IsFirst (fun a => x (ix2 r a)) k) :
    Ref.first (F := Ideal) x (ix1 r) = BitVec.ofNat 32 k.val := by
  rw [first_seconds, Ideal.argReduce_eq_reduce2]
  refine seconds_of _ r _ _ (congrFun (pass_fun x) (ix1 r)) ?_ h (mem_fiber x (iotaInDim S16384x1000 32 1) r)
  exact Prod.ext neg_inf rfl

end Cert.Proof.First

end
-- ==== Proof.Pay.lean ====
/- The kernel's step, read at an element: a column of the block is one row of the choice. -/
module

public import proofs.«01_k».proof.Proof.Row
public import proofs.«01_k».proof.Proof.First
public import proofs.«01_k».proof.Proof.Gen.KernelIdeal.Frame

@[expose] public section

set_option maxRecDepth 16384

noncomputable section

namespace Cert.Proof.Pay

open Idealize.ShloMosaic
open Cert.KernelIdeal Cert.KernelIdeal.Gen
open Cert.Proof.Row

/-- Two dense layers with a rectifier between, at one output: `v` holds one column of the input. -/
def dense (w1 : Fin 480 → Fin 128 → EReal) (w2 : Fin 128 → EReal) (v : Fin 480 → EReal) : EReal :=
  ∑ k : Fin 128, w2 k * max (∑ j : Fin 480, w1 j k * v j) 0

variable (v0 : FVec Ideal S480x128 .f32) (v1 : FVec Ideal S480x1024 .f32) (v6 : FVec Ideal S1000x128 .f32)
  (v20 : FVec Ideal S1000x1024 .f32)

/-- The logits of column `l`, and its legality flags. -/
def zc (l : Fin 1024) (a : Fin 1000) : EReal :=
  dense (fun j k => v0 (ix2 j k)) (fun k => v6 (ix2 a k)) (fun j => v1 (ix2 j l))
@[inherit_doc zc]
def lc (l : Fin 1024) (a : Fin 1000) : EReal := v20 (ix2 a l)

theorem neg_inf : Ideal.ofBits .f32 4286578688#32 = (⊥ : EReal) := First.neg_inf

theorem pay2_eq (a : Fin 1000) (l : Fin 1024) : k0_pay2 (F := Ideal) v0 v1 v6 (ix2 a l) = low (zc v0 v1 v6 l) a := by
  pointwise [k0_pay2]
  rw [neg_inf]
  rfl

theorem pay4_eq (a : Fin 1000) (l : Fin 1024) : k0_pay4 (F := Ideal) v0 v1 v6 (ix2 a l) = lp (zc v0 v1 v6 l) a := by
  pointwise [k0_pay4, k0_pay3]
  simp only [pay2_eq]
  rfl

open Classical in
/-- The bit of a proposition. -/
def bit (p : Prop) : BitVec 1 := BitVec.ofBool (decide p)

theorem select_bit {α : Type} (p : Prop) [Decidable p] (x y : α) : Scalar.select (bit p) x y = if p then x else y := by
  by_cases h : p
  · have e : bit p = 1#1 := by unfold bit; simp [h]
    rw [if_pos h, e]; rfl
  · have e : bit p = 0#1 := by unfold bit; simp [h]
    rw [if_neg h, e]; rfl

theorem pay7_eq (l : Fin 1024) :
    k0_pay7 (F := Ideal) v0 v1 v6 v20 (ix2 0 l) = bit (noneK (zc v0 v1 v6 l) (lc v20 l)) := by
  pointwise [k0_pay7, k0_pay6, k0_pay5, k0_pay3]
  simp only [pay2_eq]
  rw [neg_inf, bit]
  exact congrArg BitVec.ofBool (decide_eq_decide.mpr Iff.rfl)

theorem pay8_eq (a : Fin 1000) (l : Fin 1024) :
    k0_pay8 (F := Ideal) v0 v1 v6 v20 (ix2 a l) = pickK (zc v0 v1 v6 l) (lc v20 l) a := by
  classical
  pointwise [k0_pay8, k0_pay6, k0_pay5, k0_pay3]
  rw [pay2_eq, pay7_eq, select_bit, pickK]
  exact if_congr Iff.rfl rfl rfl

/-- The least place of a largest entry, in the form a step takes it. -/
theorem least {z : Fin 1000 → EReal} {k : Fin 1000} (h : IsFirst z k) (D : ∀ a, Decidable (z a = Finset.univ.fold max ⊥ z)) :
    (Finset.univ.fold IntOp.minsi 2147483647#32 fun a : Fin 1000 =>
      @ite _ (z a = Finset.univ.fold max ⊥ z) (D a) (BitVec.ofNat 32 a.val) 1000#32) = BitVec.ofNat 32 k.val := by
  rw [← First.least_place h]
  refine congrArg (fun f => Finset.univ.fold IntOp.minsi 2147483647#32 f) (funext fun a => ?_)
  exact if_congr Iff.rfl rfl rfl

theorem pay9_eq (l : Fin 1024) {k : Fin 1000} (h : IsFirst (pickK (zc v0 v1 v6 l) (lc v20 l)) k) :
    k0_pay9 (F := Ideal) v0 v1 v6 v20 (ix1 l) = BitVec.ofNat 32 k.val := by
  pointwise [k0_pay9]
  simp only [pay8_eq, neg_inf]
  exact least h _

/-- The kernel's floor under its logarithms: the logarithm of the reference's. -/
def eps : ℝ := 332307 / 332306998946228968225951765070086144

theorem floor_eq : (Named.named κ "log_floor" 0xC28A27B5#32 : Ideal .f32) = ((Real.log eps : ℝ) : EReal) :=
  IdealRules.named_const.ideal_named_scalar _ _ _ _ rfl

/-- The noisy logarithms of column `l`. -/
def nc (g : FVec Ideal S1000x1024 .f32) (l : Fin 1024) (a : Fin 1000) : EReal :=
  logK (zc v0 v1 v6 l) (lc v20 l) ((Real.log eps : ℝ) : EReal) a + g (ix2 a l)

/-- One of the two places, by the flag `g`. -/
def choose (g a b : BitVec 32) : BitVec 32 :=
  IntOp.addi (IntOp.muli g a) (IntOp.muli (IntOp.subi 1#32 g) b)

theorem pay10_eq (g : FVec Ideal S1000x1024 .f32) (gr : IVec S1x1024 32) (l : Fin 1024) {k k' : Fin 1000}
    (h : IsFirst (pickK (zc v0 v1 v6 l) (lc v20 l)) k) (h' : IsFirst (nc v0 v1 v6 v20 g l) k') :
    k0_pay10 (F := Ideal) (k0_pay4 (F := Ideal) v0 v1 v6) (k0_pay7 (F := Ideal) v0 v1 v6 v20) (k0_pay8 (F := Ideal) v0 v1 v6 v20)
        (iota .tc S1000x1024 32 [0] iota_S1000x1024_d0_w32) (k0_pay9 (F := Ideal) v0 v1 v6 v20) g gr (ix2 0 l)
      = choose (gr (ix2 0 l)) (BitVec.ofNat 32 k.val) (BitVec.ofNat 32 k'.val) := by
  classical
  have e : ∀ a : Fin 1000, (if 0 < pickK (zc v0 v1 v6 l) (lc v20 l) a then
        Scalar.select (bit (noneK (zc v0 v1 v6 l) (lc v20 l))) 0 (max (lp (zc v0 v1 v6 l) a) ((Real.log eps : ℝ) : EReal))
        else ⊥) + g (ix2 a l) = nc v0 v1 v6 v20 g l a := by
    intro a
    rw [select_bit, nc, logK]
  pointwise [k0_pay10]
  rw [pay9_eq _ _ _ _ _ h]
  simp only [pay8_eq, pay7_eq, pay4_eq, neg_inf, floor_eq]
  simp only [e]
  rw [least h' _]
  rfl

theorem pay1_eq (v : FVec Ideal S128x1 .f32) (l : Fin 1024) :
    k0_pay1 (F := Ideal) (k0_pay11 (F := Ideal) v0 v1) v (ix2 0 l)
      = dense (fun j k => v0 (ix2 j k)) (fun k => v (ix2 k 0)) (fun j => v1 (ix2 j l)) := by
  pointwise [k0_pay1, k0_pay11]
  rfl

end Cert.Proof.Pay

end
-- ==== Proof.Block.lean ====
/- What each block of the kernel's operands holds, by batch row. -/
module

public import proofs.«01_k».proof.Proof.Entry
public import proofs.«01_k».proof.Proof.Pay

@[expose] public section

set_option maxRecDepth 16384

noncomputable section

namespace Cert.Proof.Block

open Idealize.ShloMosaic Idealize.ShloMosaic.TcCoe Idealize.ShloMosaic.StableHlo Idealize.SL.Sem
open Cert.KernelIdeal Cert.KernelIdeal.Gen
open Cert.Proof Cert.Proof.Row Cert.Proof.Pay Cert.Proof.Entry

variable (m : (ℓ : Loc nD τ sig) → Buf (Elt Ideal) ℓ) (c : Dev nD)

/-- The arguments, at their shapes. -/
abbrev aS : FVec Ideal S16384x480 .f32 := m ((c : Thread nD τ).loc main_arg0)
abbrev aP : FVec Ideal S16384x480 .f32 := m ((c : Thread nD τ).loc main_arg1)
abbrev aL : FVec Ideal S16384x1000 .f32 := m ((c : Thread nD τ).loc main_arg2)
abbrev aG : IVec S16384 32 := m ((c : Thread nD τ).loc main_arg3)
abbrev aW1 : FVec Ideal S480x128 .f32 := m ((c : Thread nD τ).loc main_arg4)
abbrev aW2 : FVec Ideal S128x1000 .f32 := m ((c : Thread nD τ).loc main_arg6)
abbrev aV1 : FVec Ideal S480x128 .f32 := m ((c : Thread nD τ).loc main_arg8)
abbrev aV2 : FVec Ideal S128x1 .f32 := m ((c : Thread nD τ).loc main_arg10)

/-- One batch row's logits, legal places, noise, and value. -/
def zrow (b : Fin 16384) (a : Fin 1000) : EReal :=
  dense (fun j k => aW1 m c (ix2 j k)) (fun k => aW2 m c (ix2 k a)) (fun j => aS m c (ix2 b j))
def lrow (b : Fin 16384) (a : Fin 1000) : EReal := aL m c (ix2 b a)
def grow (b : Fin 16384) (a : Fin 1000) : EReal := noise m c (ix2 b a)
def vrow (b : Fin 16384) : EReal :=
  dense (fun j k => aV1 m c (ix2 j k)) (fun k => aV2 m c (ix2 k 0)) (fun j => aP m c (ix2 b j))

/-- The layouts, by place. -/
theorem flip480 (X : FVec Ideal S16384x480 .f32) (j : Fin 480) (b : Fin 16384) :
    transpose S480x16384 [1, 0] X transposes_S16384x480_S480x16384_1_0 (ix2 j b) = X (ix2 b j) := by pointwise
theorem flip1000 (X : FVec Ideal S16384x1000 .f32) (j : Fin 1000) (b : Fin 16384) :
    transpose S1000x16384 [1, 0] X transposes_S16384x1000_S1000x16384_1_0 (ix2 j b) = X (ix2 b j) := by pointwise
theorem flip128 (X : FVec Ideal S128x1000 .f32) (j : Fin 1000) (b : Fin 128) :
    transpose S1000x128 [1, 0] X transposes_S128x1000_S1000x128_1_0 (ix2 j b) = X (ix2 b j) := by pointwise
theorem flat (X : IVec S16384 32) (b : Fin 16384) :
    shapeCast S1x16384 X shapeCasts_S16384_S1x16384 (ix2 0 b) = X (ix1 b) := by
  pointwise

theorem idx : ∀ t : Fin cfg0.N,
    win0_0.index t = ![0, t.val] ∧ win0_1.index t = ![0, t.val] ∧ win0_2.index t = ![0, t.val] ∧ win0_3.index t = ![0, t.val]
    ∧ win0_4.index t = ![0, t.val] ∧ win0_5.index t = ![0, 0] ∧ win0_6.index t = ![0, 0] ∧ win0_7.index t = ![0, 0]
    ∧ win0_8.index t = ![0, 0] ∧ win0_9.index t = ![0, t.val] ∧ win0_10.index t = ![0, t.val] ∧ win0_11.index t = ![0, t.val] :=
  (by decide +kernel : ∀ t : Fin grid0.N, _)

/-- Block `t`'s column `l`, as a batch row. -/
def col (t : Fin cfg0.N) (l : Fin 1024) : Fin 16384 := ⟨t.val * 1024 + l.val, by have := t.isLt; have : cfg0.N = 16 := rfl; omega⟩

theorem read0 (t : Fin cfg0.N) (j : Fin 480) (l : Fin 1024) : iblk m c 0 t (ix2 j l) = aS m c (ix2 (col t l) j) := by
  have e : iblk m c 0 t (ix2 j l) = V m c main_v9 (ix2 j (col t l)) := by blk_ext [iblk, idx t, col]
  rw [e, V_v9, flip480]
theorem read1 (t : Fin cfg0.N) (j : Fin 480) (l : Fin 1024) : iblk m c 1 t (ix2 j l) = aP m c (ix2 (col t l) j) := by
  have e : iblk m c 1 t (ix2 j l) = V m c main_v10 (ix2 j (col t l)) := by blk_ext [iblk, idx t, col]
  rw [e, V_v10, flip480]
theorem read2 (t : Fin cfg0.N) (a : Fin 1000) (l : Fin 1024) : iblk m c 2 t (ix2 a l) = aL m c (ix2 (col t l) a) := by
  have e : iblk m c 2 t (ix2 a l) = V m c main_v11 (ix2 a (col t l)) := by blk_ext [iblk, idx t, col]
  rw [e, V_v11, flip1000]
theorem read3 (t : Fin cfg0.N) (l : Fin 1024) : iblk m c 3 t (ix2 0 l) = aG m c (ix1 (col t l)) := by
  have e : iblk m c 3 t (ix2 0 l) = V m c main_v12 (ix2 0 (col t l)) := by blk_ext [iblk, idx t, col]
  rw [e, V_v12, flat]
/-- The noise's block, of any array. -/
theorem cut4 (A : Buf (Elt Ideal) ((c : Thread nD τ).loc main_v8)) (t : Fin cfg0.N) (a : Fin 1000) (l : Fin 1024) :
    ((cfg0.win 4).blk t).view.read (Elt Ideal) A (ix2 a l) = A (ix2 a (col t l)) := by blk_ext [idx t, col]
theorem read4 (t : Fin cfg0.N) (a : Fin 1000) (l : Fin 1024) : iblk m c 4 t (ix2 a l) = noise m c (ix2 (col t l) a) := by
  show ((cfg0.win 4).blk t).view.read (Elt Ideal) (V m c main_v8) (ix2 a l) = _
  rw [cut4, V_v8]
  exact flip1000 _ _ _
theorem read5 (t : Fin cfg0.N) (j : Fin 480) (k : Fin 128) : iblk m c 5 t (ix2 j k) = aW1 m c (ix2 j k) := by
  have e : iblk m c 5 t (ix2 j k) = V m c main_arg4 (ix2 j k) := by blk_ext [iblk, idx t]
  rw [e, V_main_arg4]
theorem read6 (t : Fin cfg0.N) (a : Fin 1000) (k : Fin 128) : iblk m c 6 t (ix2 a k) = aW2 m c (ix2 k a) := by
  have e : iblk m c 6 t (ix2 a k) = V m c main_v13 (ix2 a k) := by blk_ext [iblk, idx t]
  rw [e, V_v13, flip128]
theorem read7 (t : Fin cfg0.N) (j : Fin 480) (k : Fin 128) : iblk m c 7 t (ix2 j k) = aV1 m c (ix2 j k) := by
  have e : iblk m c 7 t (ix2 j k) = V m c main_arg8 (ix2 j k) := by blk_ext [iblk, idx t]
  rw [e, V_main_arg8]
theorem read8 (t : Fin cfg0.N) (k : Fin 128) : iblk m c 8 t (ix2 k 0) = aV2 m c (ix2 k 0) := by
  have e : iblk m c 8 t (ix2 k 0) = V m c main_arg10 (ix2 k 0) := by blk_ext [iblk, idx t]
  rw [e, V_main_arg10]

end Cert.Proof.Block

end
-- ==== Proof.Ker.lean ====
/- What the kernel's three output arrays hold at the end: per batch row, the choice, the log-softmax and the value. -/
module

public import proofs.«01_k».proof.Proof.Block

@[expose] public section

set_option maxRecDepth 16384

noncomputable section

namespace Cert.Proof.Ker

open Idealize.ShloMosaic Idealize.ShloMosaic.TcCoe Idealize.ShloMosaic.StableHlo Idealize.SL.Sem
open Cert.KernelIdeal Cert.KernelIdeal.Gen
open Cert.Proof Cert.Proof.Row Cert.Proof.Pay Cert.Proof.Entry Cert.Proof.Block

variable (m : (ℓ : Loc nD τ sig) → Buf (Elt Ideal) ℓ) (c : Dev nD)

/-- A block's logits are its rows'. -/
theorem zc_row (t : Fin cfg0.N) (l : Fin 1024) : zc (iblk m c 5 t) (iblk m c 0 t) (iblk m c 6 t) l = zrow m c (col t l) := by
  funext a
  unfold zc zrow
  congr 1
  · funext j k; exact read5 m c t j k
  · funext k; exact read6 m c t a k
  · funext j; exact read0 m c t j l

/-- Its legal places. -/
theorem lc_row (t : Fin cfg0.N) (l : Fin 1024) : lc (iblk m c 2 t) l = lrow m c (col t l) := by
  funext a; exact read2 m c t a l

/-- The kernel's noisy logarithms of one row. -/
def nrow (b : Fin 16384) (a : Fin 1000) : EReal := logK (zrow m c b) (lrow m c b) ((Real.log eps : ℝ) : EReal) a + grow m c b a

theorem nc_row (t : Fin cfg0.N) (l : Fin 1024) :
    nc (iblk m c 5 t) (iblk m c 0 t) (iblk m c 6 t) (iblk m c 2 t) (iblk m c 4 t) l = nrow m c (col t l) := by
  funext a
  unfold nc nrow
  rw [zc_row, lc_row]
  exact congrArg _ (read4 m c t a l)

/-- The place of the largest weight, and of the largest noisy logarithm. -/
def best (b : Fin 16384) : Fin 1000 := Classical.choose (exists_first (pickK (zrow m c b) (lrow m c b)))
def drawn (b : Fin 16384) : Fin 1000 := Classical.choose (exists_first (nrow m c b))

theorem best_first (b : Fin 16384) : IsFirst (pickK (zrow m c b) (lrow m c b)) (best m c b) := Classical.choose_spec (exists_first _)
theorem drawn_first (b : Fin 16384) : IsFirst (nrow m c b) (drawn m c b) := Classical.choose_spec (exists_first _)

/-- The three arrays, by place. -/
def G10 : FVec Ideal S1000x16384 .f32 := fun i => lp (zrow m c (i 1)) (i 0)
def G11 : FVec Ideal S1x16384 .f32 := fun i => vrow m c (i 1)
def G9 : IVec S1x16384 32 := fun i => choose (aG m c (ix1 (i 1))) (BitVec.ofNat 32 (best m c (i 1)).val) (BitVec.ofNat 32 (drawn m c (i 1)).val)

/-- One block's entries, at a named place. -/
theorem point10 (t : Fin cfg0.N) (a : Fin 1000) (l : Fin 1024) :
    k0_pay4 (F := Ideal) (iblk m c 5 t) (iblk m c 0 t) (iblk m c 6 t) (ix2 a l) = lp (zrow m c (col t l)) a := by
  rw [pay4_eq, zc_row]
theorem point11 (t : Fin cfg0.N) (l : Fin 1024) :
    k0_pay1 (F := Ideal) (k0_pay11 (iblk m c 7 t) (iblk m c 1 t)) (iblk m c 8 t) (ix2 0 l) = vrow m c (col t l) := by
  rw [pay1_eq]
  unfold vrow
  congr 1
  · funext j k; exact read7 m c t j k
  · funext k; exact read8 m c t k
  · funext j; exact read1 m c t j l

/-- A place of a block, in the array. -/
theorem emb10 (t : Fin cfg0.N) (a : Fin 1000) (l : Fin 1024) :
    (((cfg0.win 10).blk t).view.emb (ix2 a l) : S1000x16384.Idx) = ix2 a (col t l) := by blk_ext [idx t, col]
theorem emb11 (t : Fin cfg0.N) (l : Fin 1024) :
    (((cfg0.win 11).blk t).view.emb (ix2 0 l) : S1x16384.Idx) = ix2 0 (col t l) := by blk_ext [idx t, col]
theorem emb9 (t : Fin cfg0.N) (l : Fin 1024) :
    (((cfg0.win 9).blk t).view.emb (ix2 0 l) : S1x16384.Idx) = ix2 0 (col t l) := by blk_ext [idx t, col]

/-- Every place is named by its coordinates. -/
theorem named (y : S1000x1024.Idx) : ∃ (a : Fin 1000) (l : Fin 1024), y = ix2 a l := ⟨y 0, y 1, by blk_ext⟩
theorem named' (y : S1x1024.Idx) : ∃ l : Fin 1024, y = ix2 0 l := ⟨y 1, by blk_ext⟩

theorem final10 : (dats m 0 c).arrAt 10 cfg0.N = G10 m c := by
  refine (dats m 0 c).arrAt_eq_of_covers 10 _ (by decide +kernel) fun t _ y => ?_
  blk_simp
  rw [after0_10]
  frame_out
  obtain ⟨a, l, rfl⟩ := named y
  exact (point10 m c t a l).trans (congrArg (G10 m c) (emb10 t a l)).symm
theorem final11 : (dats m 0 c).arrAt 11 cfg0.N = G11 m c := by
  refine (dats m 0 c).arrAt_eq_of_covers 11 _ (by decide +kernel) fun t _ y => ?_
  blk_simp
  rw [after0_11]
  frame_out
  obtain ⟨l, rfl⟩ := named' y
  exact (point11 m c t l).trans (congrArg (G11 m c) (emb11 t l)).symm
theorem final9 : (dats m 0 c).arrAt 9 cfg0.N = G9 m c := by
  refine (dats m 0 c).arrAt_eq_of_covers 9 _ (by decide +kernel) fun t _ y => ?_
  blk_simp
  rw [after0_9]
  frame_out
  obtain ⟨l, rfl⟩ := named' y
  have hk : IsFirst (pickK (zc (iblk m c 5 t) (iblk m c 0 t) (iblk m c 6 t) l) (lc (iblk m c 2 t) l)) (best m c (col t l)) := by
    rw [zc_row, lc_row]; exact best_first m c _
  have hk' : IsFirst (nc (iblk m c 5 t) (iblk m c 0 t) (iblk m c 6 t) (iblk m c 2 t) (iblk m c 4 t) l) (drawn m c (col t l)) := by
    rw [nc_row]; exact drawn_first m c _
  refine ((pay10_eq _ _ _ _ _ (iblk m c 3 t) l hk hk').trans ?_).trans (congrArg (G9 m c) (emb9 t l)).symm
  exact congrArg (fun g => choose g _ _) (read3 m c t l)

/-! ## The three results -/

variable (b : Fin 16384)

theorem flip (X : FVec Ideal S1000x16384 .f32) (a : Fin 1000) :
    transpose S16384x1000 [1, 0] X transposes_S1000x16384_S16384x1000_1_0 (ix2 b a) = X (ix2 a b) := by pointwise
theorem lineI (X : IVec S1x16384 32) : shapeCast S16384 X shapeCasts_S1x16384_S16384 (ix1 b) = X (ix2 0 b) := by pointwise
theorem lineF (X : FVec Ideal S1x16384 .f32) : shapeCast S16384 X shapeCasts_S1x16384_S16384 (ix1 b) = X (ix2 0 b) := by pointwise

/-- The memory after the whole kernel. -/
abbrev done : (b : Ref sig .tc) → Buf (Elt Ideal) ((c : Thread nD τ).loc b) := Pipeline.afterTail₀ cfgs (dats m) 0 (V0 m) [hostOps1] c

theorem res_logp (a : Fin 1000) : (done m c main_v16 : FVec Ideal S16384x1000 .f32) (ix2 b a) = lp (zrow m c b) a := by
  unfold done
  rw [tail_v16, flip, final10]; rfl
theorem res_value : (done m c main_v17 : FVec Ideal S16384 .f32) (ix1 b) = vrow m c b := by
  unfold done
  rw [tail_v17, lineF, final11]; rfl
theorem res_action : (done m c main_v15 : IVec S16384 32) (ix1 b)
    = choose (aG m c (ix1 b)) (BitVec.ofNat 32 (best m c b).val) (BitVec.ofNat 32 (drawn m c b).val) := by
  unfold done
  rw [tail_v15, lineI, final9]; rfl

end Cert.Proof.Ker

end
-- ==== Proof.RefVal.lean ====
/- The reference's stages by batch row: the log-softmax, the legal weights, and their logarithms. -/
module

public import proofs.«01_k».proof.Proof.RefRead
public import proofs.«01_k».proof.Proof.First
public import proofs.«01_k».proof.Proof.Row
public import proofs.«01_k».proof.Proof.Pay
public import Idealize.ShloMosaic.Lib.Pointwise
public import Idealize.ShloMosaic.Lib.ReduceAll

@[expose] public section

set_option maxRecDepth 16384

noncomputable section

namespace Cert.Proof.RefVal

open Idealize.ShloMosaic
open Cert.ReferenceIdeal Cert.ReferenceIdeal.Gen
open Cert.Proof Cert.Proof.Row

variable (b : Fin 16384) (a : Fin 1000)

/-- With zero biases, a row's logits are the two dense layers. -/
theorem logits_at (a0 : FVec Ideal S16384x480 .f32) (a4 : FVec Ideal S480x128 .f32) (a5 : FVec Ideal S128 .f32)
    (a6 : FVec Ideal S128x1000 .f32) (a7 : FVec Ideal S1000 .f32) (h5 : ∀ k : Fin 128, a5 (ix1 k) = 0) (h7 : ∀ k : Fin 1000, a7 (ix1 k) = 0) :
    Ref.logits (F := Ideal) a0 a4 a5 a6 a7 (ix2 b a)
      = Pay.dense (fun j k => a4 (ix2 j k)) (fun k => a6 (ix2 k a)) (fun j => a0 (ix2 b j)) := by
  pointwise [Ref.logits]
  rw [h7, add_zero]
  unfold Pay.dense
  refine Finset.sum_congr rfl fun k _ => ?_
  rw [h5, add_zero, mul_comm]
  simp only [mul_comm]

/-- And so is its value. -/
theorem values_at (a1 : FVec Ideal S16384x480 .f32) (a8 : FVec Ideal S480x128 .f32) (a9 : FVec Ideal S128 .f32)
    (a10 : FVec Ideal S128x1 .f32) (a11 : FVec Ideal S1 .f32) (h9 : ∀ k : Fin 128, a9 (ix1 k) = 0) (h11 : ∀ k : Fin 1, a11 (ix1 k) = 0) :
    Ref.values (F := Ideal) a1 a8 a9 a10 a11 (ix1 b)
      = Pay.dense (fun j k => a8 (ix2 j k)) (fun k => a10 (ix2 k 0)) (fun j => a1 (ix2 b j)) := by
  pointwise [Ref.values]
  rw [h11, add_zero]
  unfold Pay.dense
  refine Finset.sum_congr rfl fun k _ => ?_
  rw [h9, add_zero, mul_comm]
  simp only [mul_comm]

/-- A row's largest entry; one number per row laid over its places. -/
theorem largest (x : FVec Ideal S16384x1000 .f32) : Host.reduce FloatOps.maximumf x (constant S_ .f32 0xFF800000#32) reducesTo_S16384x1000_S16384_d1 h_S_ (ix1 b)
    = Row.top (fun a => x (ix2 b a)) := by
  pointwise
  rw [Pay.neg_inf]
  rfl

@[inherit_doc largest]
theorem spread (y : FVec Ideal S16384 .f32) : broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32)) y)) (ix2 b a) = y (ix1 b) := by
  pointwise
  rw [Pay.neg_inf, max_eq_right bot_le]

theorem top_at (x : FVec Ideal S16384x1000 .f32) : Ref.top (F := Ideal) x (ix2 b a) = Row.top (fun a => x (ix2 b a)) :=
  (spread b a _).trans (largest b x)

/-- The log-softmax, with the row's subtrahends given. -/
theorem lessen (x T : FVec Ideal S16384x1000 .f32) :
    subf (F := Ideal) (subf x T) (broadcastInDim S16384x1000 ![0, 1] bcast_S16384x1_S16384x1000_0_1 (Host.log (broadcastInDim S16384x1 ![0] bcast_S16384_S16384x1_0
      (Host.reduceAdd (Host.exp (subf x T)) (constant S_ .f32 0x00000000#32) reducesTo_S16384x1000_S16384_d1 h_S_)))) (ix2 b a)
    = x (ix2 b a) - T (ix2 b a) - Ideal.log (∑ a : Fin 1000, Ideal.exp (x (ix2 b a) - T (ix2 b a))) := by
  pointwise

theorem logp_at (x : FVec Ideal S16384x1000 .f32) : Ref.logp (F := Ideal) x (ix2 b a) = lp (fun a => x (ix2 b a)) a := by
  refine (lessen b a x (Ref.top x)).trans ?_
  simp only [top_at]
  rfl

theorem bit_ne_one {v : BitVec 1} (h : v ≠ 1#1) : v = 0#1 := by
  revert h
  revert v
  decide

theorem andi_fold {ι : Type} (f : ι → BitVec 1) (s : Finset ι) : s.fold IntOp.andi 1#1 f = 1#1 ↔ ∀ x ∈ s, f x = 1#1 := by
  classical
  induction s using Finset.induction with
  | empty => simp
  | insert x s hx ih => rw [Finset.fold_insert hx, IntOp.andi_eq_one, ih, Finset.forall_mem_insert]

theorem masked_at (p l : FVec Ideal S16384x1000 .f32) (z w : Fin 1000 → EReal) (hp : ∀ a, p (ix2 b a) = Ideal.exp (lp z a))
    (hl : ∀ a, l (ix2 b a) = w a) : Ref.masked (F := Ideal) p l (ix2 b a) = pickR z w a := by
  pointwise [Ref.masked]
  have e : (Finset.fold IntOp.andi (1#1) (fun x : Fin 1000 => BitVec.ofBool (decide (p (ix2 b x) * l (ix2 b x) = 0))) Finset.univ) = Pay.bit (noneR z w) := by
    have h := andi_fold (fun x : Fin 1000 => BitVec.ofBool (decide (p (ix2 b x) * l (ix2 b x) = 0))) Finset.univ
    have h' : (∀ x ∈ (Finset.univ : Finset (Fin 1000)), BitVec.ofBool (decide (p (ix2 b x) * l (ix2 b x) = 0)) = 1#1) ↔ noneR z w := by
      simp only [Finset.mem_univ, true_imp_iff, hp, hl, noneR, wR]
      refine forall_congr' fun x => ?_
      by_cases hx : Ideal.exp (lp z x) * w x = 0 <;> simp [hx]
    rw [h'] at h
    by_cases hn : noneR z w
    · rw [h.mpr hn]; unfold Pay.bit; simp [hn]
    · have := mt h.mp hn
      rw [bit_ne_one this]; unfold Pay.bit; simp [hn]
  refine (congrArg (fun v => Scalar.select v (l (ix2 b a)) (p (ix2 b a) * l (ix2 b a))) e).trans ?_
  rw [hp, hl]
  classical
  rw [Pay.select_bit]
  unfold pickR wR
  congr

theorem eps_eq : Ideal.ofBits .f32 228737632#32 = ((Pay.eps : ℝ) : EReal) := by
  simp [Ideal.ofBits, Ideal.ieee, Pay.eps]
  rw [← EReal.coe_mul]
  congr 1
  norm_num

theorem logw_at (x : FVec Ideal S16384x1000 .f32) (z w : Fin 1000 → EReal) (hx : ∀ a, x (ix2 b a) = pickR z w a) :
    Ref.logw (F := Ideal) x (ix2 b a) = logR z w ((Pay.eps : ℝ) : EReal) a := by
  pointwise [Ref.logw]
  rw [Pay.neg_inf, eps_eq, hx]
  unfold logR
  congr

theorem action_at (g u v : IVec S16384 32) : Ref.action g u v (ix1 b) = Pay.choose (g (ix1 b)) (u (ix1 b)) (v (ix1 b)) := by
  pointwise [Ref.action]
  rfl

end Cert.Proof.RefVal

end
-- ==== Proof.Equal.lean ====
/- The two programs' results, compared batch row by batch row. -/
module

public import proofs.«01_k».proof.Proof.Ker
public import proofs.«01_k».proof.Proof.RefVal

@[expose] public section

set_option maxRecDepth 16384

noncomputable section

namespace Cert.Proof.Equal

open Idealize.ShloMosaic Idealize.ShloMosaic.TcCoe Idealize.ShloMosaic.StableHlo Idealize.SL.Sem
open Cert.Proof Cert.Proof.Row

/-- Two places' arrays of a shape agree when they do at every named place. -/
theorem ext2 {α : Type} {x y : (⟨2, ![16384, 1000]⟩ : Shape).Idx → α} (h : ∀ (b : Fin 16384) (a : Fin 1000), x (ix2 b a) = y (ix2 b a)) : x = y := by
  funext i
  have e : i = ix2 (i 0) (i 1) := by blk_ext
  rw [e]; exact h _ _
theorem ext1 {α : Type} {x y : (⟨1, ![16384]⟩ : Shape).Idx → α} (h : ∀ b : Fin 16384, x (ix1 b) = y (ix1 b)) : x = y := by
  funext i
  have e : i = ix1 (i 0) := by blk_ext
  rw [e]; exact h _

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

/-- All zero. -/
def Zero (n : ℕ) (x : FVec Ideal (⟨1, ![n]⟩ : Shape) .f32) : Prop := ∀ k : Fin n, x (ix1 k) = 0

/-- The reference starts from the kernel's arguments, and these are as drawn. -/
structure Agree : Prop where
  s : V (Proc.devRef .tc Cert.ReferenceIdeal.main_arg0) = Block.aS m c
  p : V (Proc.devRef .tc Cert.ReferenceIdeal.main_arg1) = Block.aP m c
  l : V (Proc.devRef .tc Cert.ReferenceIdeal.main_arg2) = Block.aL m c
  g : V (Proc.devRef .tc Cert.ReferenceIdeal.main_arg3) = Block.aG m c
  w1 : V (Proc.devRef .tc Cert.ReferenceIdeal.main_arg4) = Block.aW1 m c
  w2 : V (Proc.devRef .tc Cert.ReferenceIdeal.main_arg6) = Block.aW2 m c
  v1 : V (Proc.devRef .tc Cert.ReferenceIdeal.main_arg8) = Block.aV1 m c
  v2 : V (Proc.devRef .tc Cert.ReferenceIdeal.main_arg10) = Block.aV2 m c
  legal : ∀ (b : Fin 16384) (a : Fin 1000), Block.aL m c (ix2 b a) = 0 ∨ Block.aL m c (ix2 b a) = 1
  b1 : Zero 128 (V (Proc.devRef .tc Cert.ReferenceIdeal.main_arg5))
  b2 : Zero 1000 (V (Proc.devRef .tc Cert.ReferenceIdeal.main_arg7))
  vb1 : Zero 128 (V (Proc.devRef .tc Cert.ReferenceIdeal.main_arg9))
  vb2 : Zero 1 (V (Proc.devRef .tc Cert.ReferenceIdeal.main_arg11))

variable {m c V} (h : Agree m c V)

/-- The reference's logits. -/
abbrev refLogits (V : Valuation Cert.ReferenceIdeal.τ Cert.ReferenceIdeal.sig (Elt Ideal)) : FVec Ideal Cert.ReferenceIdeal.S16384x1000 .f32 :=
  Ref.logits (F := Ideal) (V (Proc.devRef .tc Cert.ReferenceIdeal.main_arg0)) (V (Proc.devRef .tc Cert.ReferenceIdeal.main_arg4))
    (V (Proc.devRef .tc Cert.ReferenceIdeal.main_arg5)) (V (Proc.devRef .tc Cert.ReferenceIdeal.main_arg6)) (V (Proc.devRef .tc Cert.ReferenceIdeal.main_arg7))

theorem eps_pos : 0 < Pay.eps := by unfold Pay.eps; positivity
theorem eps_le : Pay.eps ≤ 1 := by unfold Pay.eps; norm_num

include h

/-- They are the kernel's, -/
theorem logits_row (b : Fin 16384) (a : Fin 1000) : refLogits V (ix2 b a) = Block.zrow m c b a := by
  refine (RefVal.logits_at b a _ _ _ _ _ h.b1 h.b2).trans ?_
  rw [h.s, h.w1, h.w2]
  rfl

/-- and so is their log-softmax, -/
theorem logp_row (b : Fin 16384) (a : Fin 1000) : Ref.outLogp (F := Ideal) V (ix2 b a) = lp (Block.zrow m c b) a := by
  refine (RefVal.logp_at b a _).trans ?_
  rw [show (fun a : Fin 1000 => refLogits V (ix2 b a)) = Block.zrow m c b from funext fun a => logits_row h b a]

theorem same_logp : Ker.done m c Cert.KernelIdeal.main_v16 = Ref.outLogp (F := Ideal) V :=
  ext2 fun b a => (Ker.res_logp m c b a).trans (logp_row h b a).symm

/-- and the value. -/
theorem same_value : Ker.done m c Cert.KernelIdeal.main_v17 = Ref.values (F := Ideal) (V (Proc.devRef .tc Cert.ReferenceIdeal.main_arg1))
    (V (Proc.devRef .tc Cert.ReferenceIdeal.main_arg8)) (V (Proc.devRef .tc Cert.ReferenceIdeal.main_arg9))
    (V (Proc.devRef .tc Cert.ReferenceIdeal.main_arg10)) (V (Proc.devRef .tc Cert.ReferenceIdeal.main_arg11)) := by
  refine ext1 fun b => (Ker.res_value m c b).trans ((RefVal.values_at b _ _ _ _ _ h.vb1 h.vb2).trans ?_).symm
  rw [h.p, h.v1, h.v2]
  rfl

/-- The reference's weights. -/
theorem masked_row (b : Fin 16384) (a : Fin 1000) : Ref.outMasked (F := Ideal) V (ix2 b a) = pickR (Block.zrow m c b) (Block.lrow m c b) a := by
  refine RefVal.masked_at b a _ _ _ _ (fun a => ?_) fun a => ?_
  · exact congrArg Ideal.exp (logp_row h b a)
  · rw [h.l]; rfl

theorem legal_row (b : Fin 16384) : ∀ a, Block.lrow m c b a = 0 ∨ Block.lrow m c b a = 1 := h.legal b

/-- The largest weight stands first at the same place. -/
theorem greedy_row (b : Fin 16384) : Ref.first (F := Ideal) (Ref.outMasked (F := Ideal) V) (ix1 b) = BitVec.ofNat 32 (Ker.best m c b).val := by
  refine First.first_eq _ b ?_
  rw [show (fun a : Fin 1000 => Ref.outMasked (F := Ideal) V (ix2 b a)) = pickR (Block.zrow m c b) (Block.lrow m c b) from funext fun a => masked_row h b a]
  exact (first_iff _ (legal_row h b) _).mp (Ker.best_first m c b)

/-- With the noise `N` the kernel's, so does the largest noisy logarithm. -/
theorem drawn_row (N : FVec Ideal Cert.ReferenceIdeal.S16384x1000 .f32) (b : Fin 16384) (hn : ∀ a : Fin 1000, N (ix2 b a) = Block.grow m c b a) :
    Ref.first (F := Ideal) (addf (F := Ideal) N (Ref.logw (F := Ideal) (Ref.outMasked (F := Ideal) V))) (ix1 b) = BitVec.ofNat 32 (Ker.drawn m c b).val := by
  refine First.first_eq _ b ?_
  have hw := fun a => RefVal.logw_at b a _ _ _ (masked_row h b)
  generalize Ref.logw (F := Ideal) (Ref.outMasked (F := Ideal) V) = L at hw ⊢
  have e : (fun a : Fin 1000 => addf (F := Ideal) N L (ix2 b a)) = Ker.nrow m c b := by
    funext a
    have ha := hw a
    rw [← log_eq _ (legal_row h b) Pay.eps eps_pos eps_le a] at ha
    refine (add_comm (N (ix2 b a) : EReal) _).trans ?_
    rw [hn a, ha]
    rfl
  rw [e]
  exact Ker.drawn_first m c b

theorem same_action (N : FVec Ideal Cert.ReferenceIdeal.S16384x1000 .f32) (hn : ∀ (b : Fin 16384) (a : Fin 1000), N (ix2 b a) = Block.grow m c b a) :
    Ker.done m c Cert.KernelIdeal.main_v15
    = Ref.action (V (Proc.devRef .tc Cert.ReferenceIdeal.main_arg3)) (Ref.first (F := Ideal) (Ref.outMasked (F := Ideal) V))
      (Ref.first (F := Ideal) (addf (F := Ideal) N (Ref.logw (F := Ideal) (Ref.outMasked (F := Ideal) V)))) := by
  refine ext1 fun b => (Ker.res_action m c b).trans ((RefVal.action_at b _ _ _).trans ?_).symm
  rw [greedy_row h b, drawn_row h N b (hn b), h.g]

omit h

/-- The noise is the same: one key, one line of operations. -/
theorem same_noise : Ref.noise (F := Ideal) V = Entry.noise m c := by
  have hk : Straight.rd Noise.K.bufs (after Cert.KernelIdeal.Gen.hostOps0 fun b => m (c, b)) (.k, 0) = Straight.rd Noise.R.bufs (Ref.opening (F := Ideal) V) (.k, 0) := by
    show (after (Cert.KernelIdeal.Gen.hostOps0 (F := Ideal)) fun b => m (c, b)) (Proc.devRef .tc Cert.KernelIdeal.main_v6)
      = Ref.opening (F := Ideal) V (Proc.devRef .tc Cert.ReferenceIdeal.main_v49)
    unfold Ref.opening
    rw [Ref.key_eq]
    after_results
    rfl
  exact (Noise.noise_agree _ _ hk).symm

theorem noise_row (b : Fin 16384) (a : Fin 1000) : Ref.noise (F := Ideal) V (ix2 b a) = Block.grow m c b a :=
  congrFun same_noise (ix2 b a)

end Cert.Proof.Equal

end
-- ==== Proof.Drawn.lean ====
/- What the precondition says of the arguments: each action is legal or not, and the biases are zero. -/
module

public import proofs.«01_k».proof.Proof.Gen.Pre_as_drawn
public import proofs.«01_k».proof.Defs
public import Idealize.ShloMosaic.Lib.Pointwise

@[expose] public section

set_option maxRecDepth 16384

noncomputable section

namespace Cert.Proof.Drawn

open Idealize.ShloMosaic
open Cert.Pre_as_drawn Cert.Pre_as_drawn.Gen

theorem of_bit {p : Prop} [Decidable p] (h : BitVec.ofBool (decide p) = 1#1) : p := by
  by_contra hp
  simp [hp] at h

variable (a0 a1 : FVec Ideal S16384x480 .f32) (a2 : FVec Ideal S16384x1000 .f32) (a3 : IVec S16384 32) (a4 : FVec Ideal S480x128 .f32)
  (a5 : FVec Ideal S128 .f32) (a6 : FVec Ideal S128x1000 .f32) (a7 : FVec Ideal S1000 .f32) (a8 : FVec Ideal S480x128 .f32)
  (a9 : FVec Ideal S128 .f32) (a10 : FVec Ideal S128x1 .f32) (a11 : FVec Ideal S1 .f32)

theorem legal (h : (fn (F := Ideal) a0 a1 a2 a3 a4 a5 a6 a7 a8 a9 a10 a11).1 = fun _ => 1#1) (b : Fin 16384) (a : Fin 1000) :
    a2 (ix2 b a) = 0 ∨ a2 (ix2 b a) = 1 := by
  have e := congrFun h (ix2 b a)
  unfold fn at e
  dsimp only at e
  pointwise at e
  by_contra hn
  rw [not_or] at hn
  simp [hn.1, hn.2, IntOp.ori] at e
theorem b1 (h : (fn (F := Ideal) a0 a1 a2 a3 a4 a5 a6 a7 a8 a9 a10 a11).2.1 = fun _ => 1#1) (k : Fin 128) : a5 (ix1 k) = 0 := by
  have e := congrFun h (ix1 k)
  unfold fn at e
  dsimp only at e
  pointwise at e
  exact of_bit e
theorem b2 (h : (fn (F := Ideal) a0 a1 a2 a3 a4 a5 a6 a7 a8 a9 a10 a11).2.2.1 = fun _ => 1#1) (k : Fin 1000) : a7 (ix1 k) = 0 := by
  have e := congrFun h (ix1 k)
  unfold fn at e
  dsimp only at e
  pointwise at e
  exact of_bit e
theorem vb1 (h : (fn (F := Ideal) a0 a1 a2 a3 a4 a5 a6 a7 a8 a9 a10 a11).2.2.2.1 = fun _ => 1#1) (k : Fin 128) : a9 (ix1 k) = 0 := by
  have e := congrFun h (ix1 k)
  unfold fn at e
  dsimp only at e
  pointwise at e
  exact of_bit e
theorem vb2 (h : (fn (F := Ideal) a0 a1 a2 a3 a4 a5 a6 a7 a8 a9 a10 a11).2.2.2.2 = fun _ => 1#1) (k : Fin 1) : a11 (ix1 k) = 0 := by
  have e := congrFun h (ix1 k)
  unfold fn at e
  dsimp only at e
  pointwise at e
  exact of_bit e

end Cert.Proof.Drawn

end
-- ==== Proof.lean ====
/- The proof of the claims: each program runs and keeps its arguments, and the idealized kernel and reference end with the
   same three results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_as_drawn
public import Idealize.ShloMosaic.Adequacy
public import proofs.«01_k».proof.Proof.Equal
public import proofs.«01_k».proof.Proof.Drawn
public import Idealize.ShloMosaic.Init

@[expose] public section

noncomputable section

namespace Cert.Proof

open Idealize.ShloMosaic Idealize.ShloMosaic.StableHlo Idealize.SL.Sem

section Reference

open Cert.ReferenceIdeal

variable (m : (ℓ : Loc nD τ sig) → Buf (Elt Ideal) ℓ) (g : Dev nD → PrngReg)

/-- The reference keeps an argument. -/
theorem ref_keep {r : PUnit × MemSt nD τ sig (Elt Ideal)} (h : ∀ (d : Dev nD) (b : Ref sig .tc), r.2.mem ((d.tc : Thread nD τ).loc b)
      = after (Ref.ops (F := Ideal)) (launchContents m d) (Proc.devRef .tc b)) (d : Dev nD) {b : Ref sig .tc} (hb : b ∈ Ref.args) :
    r.2.mem ((d.tc : Thread nD τ).loc b) = m ((d.tc : Thread nD τ).loc b) :=
  (h d b).trans (Ref.ops_keep _ hb)

/-- It runs, keeps its arguments, and leaves every counter at zero. -/
theorem ref_frame : Cert.quiescent_ReferenceIdeal := by
  intro m g _
  refine θ_run_mono (Ref.run_main m g) fun r h => ⟨fun c => ?_, sem_eq_zero_of_no_sems (by decide) r.2⟩
  refine ⟨?_, ?_, ?_, ?_, ?_, ?_, ?_, ?_, ?_, ?_, ?_, ?_⟩ <;> exact ref_keep m h c (by decide)

end Reference

theorem algebraic : Cert.algebraic_KernelIdeal_ReferenceIdeal_pre_as_drawn := by
  intro m g m' g' hp hm
  have A : ∀ c : Dev Cert.KernelIdeal.nD, Equal.Agree m c (launchContents m' c) := by
    intro c
    obtain ⟨h0, h1, h2, h3, h4, h5, h6, h7, h8, h9, h10, h11⟩ := hm c
    obtain ⟨pl, pb1, pb2, pv1, pv2⟩ := hp c
    exact {
      s := h0, p := h1, l := h2, g := h3, w1 := h4, w2 := h6, v1 := h8, v2 := h10
      legal := Drawn.legal _ _ _ _ _ _ _ _ _ _ _ _ pl
      b1 := fun k => (congrFun h5 (ix1 k)).trans (Drawn.b1 _ _ _ _ _ _ _ _ _ _ _ _ pb1 k)
      b2 := fun k => (congrFun h7 (ix1 k)).trans (Drawn.b2 _ _ _ _ _ _ _ _ _ _ _ _ pb2 k)
      vb1 := fun k => (congrFun h9 (ix1 k)).trans (Drawn.vb1 _ _ _ _ _ _ _ _ _ _ _ _ pv1 k)
      vb2 := fun k => (congrFun h11 (ix1 k)).trans (Drawn.vb2 _ _ _ _ _ _ _ _ _ _ _ _ pv2 k) }
  refine ⟨fun c => Ker.done m c Cert.KernelIdeal.main_v15, fun c => Ker.done m c Cert.KernelIdeal.main_v16,
    fun c => Ker.done m c Cert.KernelIdeal.main_v17, ?_, ?_⟩
  · refine θ_run_mono (θ_run_and (Cert.KernelIdeal.Gen.run_main m g) (Cert.KernelIdeal.Gen.unchanged m g)) fun r h c => ?_
    exact ⟨h.1.rest_eq c _ (by decide), h.1.rest_eq c _ (by decide), h.1.rest_eq c _ (by decide), h.2 c⟩
  · refine θ_run_mono (Ref.run_main m' g') fun r h c => ?_
    refine ⟨(h c _).trans ?_, (h c _).trans ?_, (h c _).trans ?_, ?_, ?_, ?_, ?_, ?_, ?_, ?_, ?_, ?_, ?_, ?_, ?_⟩
    · rw [Ref.out_action]
      exact (Equal.same_action (A c) _ Equal.noise_row).symm
    · rw [Ref.out_logp]
      exact (Equal.same_logp (A c)).symm
    · rw [Ref.out_values]
      exact (Equal.same_value (A c)).symm
    all_goals exact ref_keep m' h c (by decide)

theorem claim : Cert.Claim := ⟨Cert.Kernel.Gen.facts, Cert.KernelIdeal.Gen.facts, Cert.ReferenceIdeal.Gen.facts, Cert.Pre_as_drawn.Gen.facts,
  fun m g _ => Cert.Kernel.Gen.frame m g, fun m g _ => Cert.KernelIdeal.Gen.frame m g, fun m g _ => Cert.KernelIdeal.Gen.frame m g,
  ref_frame, fun m g _ => ref_frame m g trivial,
  IdealRules.named_const.statement _ _ _ _ _ rfl, algebraic⟩

end Cert.Proof

end
